-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_starts_in_range [hPre_starts_in_range : Cert.Pre_starts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_starts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_starts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_in_range [hPre_starts_in_range : Cert.Pre_starts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_starts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_starts_in_range [hKernelIdeal : Cert.KernelIdeal.Facts] [hPre_starts_in_range : Cert.Pre_starts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_starts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_starts_in_range [hReferenceIdeal : Cert.ReferenceIdeal.Facts] [hPre_starts_in_range : Cert.Pre_starts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_starts_in_range [hKernelIdeal : Cert.KernelIdeal.Facts] [hReferenceIdeal : Cert.ReferenceIdeal.Facts] [hPre_starts_in_range : Cert.Pre_starts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_starts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v32)) (v6 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v32) = v5 c
          ∧ r.2.mem ((c.tc : Thread Cert.KernelIdeal.nD Cert.KernelIdeal.τ).loc Cert.KernelIdeal.main_v34) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_starts_in_range : Cert.Pre_starts_in_range.Facts),
    quiescent_Kernel (hKernel := hKernel)
    ∧ quiescent_KernelIdeal (hKernelIdeal := hKernelIdeal)
    ∧ quiescent_KernelIdeal_pre_starts_in_range (hKernelIdeal := hKernelIdeal) (hPre_starts_in_range := hPre_starts_in_range)
    ∧ quiescent_ReferenceIdeal (hReferenceIdeal := hReferenceIdeal)
    ∧ quiescent_ReferenceIdeal_pre_starts_in_range (hReferenceIdeal := hReferenceIdeal) (hPre_starts_in_range := hPre_starts_in_range)
    ∧ preserves_Kernel_KernelIdeal
    ∧ algebraic_KernelIdeal_ReferenceIdeal_pre_starts_in_range (hKernelIdeal := hKernelIdeal) (hReferenceIdeal := hReferenceIdeal) (hPre_starts_in_range := hPre_starts_in_range)
-- ==== Pre_starts_in_range.lean ====
abbrev S49 : Shape := ⟨1, ![49]⟩
abbrev S10415x1024 : Shape := ⟨2, ![10415, 1024]⟩
abbrev S10415 : Shape := ⟨1, ![10415]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S48 : Shape := ⟨1, ![48]⟩
abbrev S_ : Shape := ⟨0, ![]⟩

class Facts : Prop where
  slices_S49_S48_0 : S49.Slices ![0] S48
  bcast_S_S48 : S_.BroadcastsInDim S48 (![] : Fin 0 → Fin S48.rank)
  bcast_S_S1024 : S_.BroadcastsInDim S1024 (![] : Fin 0 → Fin S1024.rank)

variable [Facts]

def fn {F : FTy → Type} [FloatOps F] (main_arg0 : IVec S49 32) (main_arg1 : IVec S10415x1024 8) (main_arg2 : FVec F S10415 .f32) (main_arg3 : FVec F S10415x1024 .bf16) (main_arg4 : IVec S1024x1024 8) (main_arg5 : FVec F S1024 .f32) (main_arg6 : FVec F S1024 .f32) (main_arg7 : FVec F S1024 .f32) (main_arg8 : FVec F S1024 .f32) (main_arg9 : FVec F S1024 .f32) (main_arg10 : IVec S1024x4096 8) (main_arg11 : FVec F S4096 .f32) (main_arg12 : FVec F S4096 .f32) (main_arg13 : IVec S4096x1024 8) (main_arg14 : FVec F S1024 .f32) (main_arg15 : FVec F S1024 .f32) (main_arg16 : FVec F S1024 .f32) (main_arg17 : FVec F S1024 .f32) (main_arg18 : FVec F S1024 .f32) : IVec S48 1 × IVec S1024 1 :=
  let main_v0 : IVec S48 32 := (extractStridedSlice S48 ![0] · slices_S49_S48_0) main_arg0
  let main_c : IVec S_ 32 := constantI S_ 32 0#32
  let main_v1 : IVec S48 32 := broadcastInDim S48 ![] bcast_S_S48 main_c
  let main_v2 : IVec S48 1 := cmpi .sge main_v0 main_v1
  let main_c_0 : IVec S_ 32 := constantI S_ 32 10415#32
  let main_v3 : IVec S48 32 := broadcastInDim S48 ![] bcast_S_S48 main_c_0
  let main_v4 : IVec S48 1 := cmpi .slt main_v0 main_v3
  let main_v5 : IVec S48 1 := andi main_v2 main_v4
  let main_cst : FVec F S_ .f32 := constant S_ .f32 0x00000000#32
  let main_v6 : FVec F S1024 .f32 := broadcastInDim S1024 ![] bcast_S_S1024 main_cst
  let main_v7 : IVec S1024 1 := cmpf .une main_arg9 main_v6
  (main_v5, main_v7)
-- ==== Kernel.lean ====
abbrev S49 : Shape := ⟨1, ![49]⟩
abbrev S10415x1024 : Shape := ⟨2, ![10415, 1024]⟩
abbrev S10415 : Shape := ⟨1, ![10415]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S80 : Shape := ⟨1, ![80]⟩
abbrev S48 : Shape := ⟨1, ![48]⟩
abbrev S128 : Shape := ⟨1, ![128]⟩
abbrev S1x128 : Shape := ⟨2, ![1, 128]⟩
abbrev S2x128 : Shape := ⟨2, ![2, 128]⟩
abbrev S10496x1024 : Shape := ⟨2, ![10496, 1024]⟩
abbrev S1x10415 : Shape := ⟨2, ![1, 10415]⟩
abbrev S1x10496 : Shape := ⟨2, ![1, 10496]⟩
abbrev S1x1024 : Shape := ⟨2, ![1, 1024]⟩
abbrev S1x4096 : Shape := ⟨2, ![1, 4096]⟩
abbrev S10496x4096 : Shape := ⟨2, ![10496, 4096]⟩
abbrev S256x1024 : Shape := ⟨2, ![256, 1024]⟩
abbrev S1x256 : Shape := ⟨2, ![1, 256]⟩
abbrev S256x4096 : Shape := ⟨2, ![256, 4096]⟩
abbrev S128x256 : Shape := ⟨2, ![128, 256]⟩
abbrev S256x128 : Shape := ⟨2, ![256, 128]⟩
abbrev S256x1 : Shape := ⟨2, ![256, 1]⟩
abbrev S256 : Shape := ⟨1, ![256]⟩
abbrev S1024x512 : Shape := ⟨2, ![1024, 512]⟩
abbrev S256x512 : Shape := ⟨2, ![256, 512]⟩
abbrev S1x512 : Shape := ⟨2, ![1, 512]⟩
abbrev S1x48 : Shape := ⟨2, ![1, 48]⟩
abbrev S10415x4096 : Shape := ⟨2, ![10415, 4096]⟩

abbrev nBuf : Space → Nat
  | .hbm => 67
  | .vmem => 40
  | .smem => 0
  | _ => 0

abbrev bufTy : (tb : Table) → Fin (tcTables nBuf tb) → BufTy
  | .hbm, ⟨0, _⟩ => ⟨S49, .i32⟩
  | .hbm, ⟨1, _⟩ => ⟨S10415x1024, .i8⟩
  | .hbm, ⟨2, _⟩ => ⟨S10415, .f32⟩
  | .hbm, ⟨3, _⟩ => ⟨S10415x1024, .bf16⟩
  | .hbm, ⟨4, _⟩ => ⟨S1024x1024, .i8⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .i8⟩
  | .hbm, ⟨11, _⟩ => ⟨S4096, .f32⟩
  | .hbm, ⟨12, _⟩ => ⟨S4096, .f32⟩
  | .hbm, ⟨13, _⟩ => ⟨S4096x1024, .i8⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .i32⟩
  | .hbm, ⟨20, _⟩ => ⟨S80, .i32⟩
  | .hbm, ⟨21, _⟩ => ⟨S48, .i32⟩
  | .hbm, ⟨22, _⟩ => ⟨S128, .i32⟩
  | .hbm, ⟨23, _⟩ => ⟨S48, .i32⟩
  | .hbm, ⟨24, _⟩ => ⟨S128, .i32⟩
  | .hbm, ⟨25, _⟩ => ⟨S1x128, .i32⟩
  | .hbm, ⟨26, _⟩ => ⟨S1x128, .i32⟩
  | .hbm, ⟨27, _⟩ => ⟨S2x128, .i32⟩
  | .hbm, ⟨28, _⟩ => ⟨S_, .i32⟩
  | .hbm, ⟨29, _⟩ => ⟨S_, .i8⟩
  | .hbm, ⟨30, _⟩ => ⟨S10496x1024, .i8⟩
  | .hbm, ⟨31, _⟩ => ⟨S1x10415, .f32⟩
  | .hbm, ⟨32, _⟩ => ⟨S_, .i32⟩
  | .hbm, ⟨33, _⟩ => ⟨S_, .f32⟩
  | .hbm, ⟨34, _⟩ => ⟨S1x10496, .f32⟩
  | .hbm, ⟨35, _⟩ => ⟨S_, .i32⟩
  | .hbm, ⟨36, _⟩ => ⟨S_, .bf16⟩
  | .hbm, ⟨37, _⟩ => ⟨S10496x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x4096, .f32⟩
  | .hbm, ⟨44, _⟩ => ⟨S1x4096, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S10496x1024, .bf16⟩
  | .hbm, ⟨51, _⟩ => ⟨S10496x1024, .bf16⟩
  | .hbm, ⟨52, _⟩ => ⟨S1x128, .f32⟩
  | .hbm, ⟨53, _⟩ => ⟨S10496x1024, .i8⟩
  | .hbm, ⟨54, _⟩ => ⟨S1x10496, .f32⟩
  | .hbm, ⟨55, _⟩ => ⟨S10496x4096, .i8⟩
  | .hbm, ⟨56, _⟩ => ⟨S1x10496, .f32⟩
  | .hbm, ⟨57, _⟩ => ⟨S10415x1024, .bf16⟩
  | .hbm, ⟨58, _⟩ => ⟨S10415x1024, .bf16⟩
  | .hbm, ⟨59, _⟩ => ⟨S1x48, .f32⟩
  | .hbm, ⟨60, _⟩ => ⟨S48, .f32⟩
  | .hbm, ⟨61, _⟩ => ⟨S10415x1024, .i8⟩
  | .hbm, ⟨62, _⟩ => ⟨S1x10415, .f32⟩
  | .hbm, ⟨63, _⟩ => ⟨S10415, .f32⟩
  | .hbm, ⟨64, _⟩ => ⟨S10415x4096, .i8⟩
  | .hbm, ⟨65, _⟩ => ⟨S1x10415, .f32⟩
  | .hbm, ⟨66, _⟩ => ⟨S10415, .f32⟩
  | .local _ .vmem, ⟨0, _⟩ => ⟨S2x128, .i32⟩
  | .local _ .vmem, ⟨1, _⟩ => ⟨S256x1024, .i8⟩
  | .local _ .vmem, ⟨2, _⟩ => ⟨S256x1024, .i8⟩
  | .local _ .vmem, ⟨3, _⟩ => ⟨S1x256, .f32⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | .local _ .vmem, ⟨7, _⟩ => ⟨S1024x1024, .i8⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x4096, .i8⟩
  | .local _ .vmem, ⟨14, _⟩ => ⟨S1x4096, .f32⟩
  | .local _ .vmem, ⟨15, _⟩ => ⟨S1x4096, .f32⟩
  | .local _ .vmem, ⟨16, _⟩ => ⟨S4096x1024, .i8⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1x128, .f32⟩
  | .local _ .vmem, ⟨27, _⟩ => ⟨S256x1024, .i8⟩
  | .local _ .vmem, ⟨28, _⟩ => ⟨S256x1024, .i8⟩
  | .local _ .vmem, ⟨29, _⟩ => ⟨S1x256, .f32⟩
  | .local _ .vmem, ⟨30, _⟩ => ⟨S1x256, .f32⟩
  | .local _ .vmem, ⟨31, _⟩ => ⟨S256x4096, .i8⟩
  | .local _ .vmem, ⟨32, _⟩ => ⟨S256x4096, .i8⟩
  | .local _ .vmem, ⟨33, _⟩ => ⟨S1x256, .f32⟩
  | .local _ .vmem, ⟨34, _⟩ => ⟨S1x256, .f32⟩
  | .local _ .vmem, ⟨35, _⟩ => ⟨S1024x1024, .bf16⟩
  | .local _ .vmem, ⟨36, _⟩ => ⟨S1024x4096, .bf16⟩
  | .local _ .vmem, ⟨37, _⟩ => ⟨S4096x1024, .bf16⟩
  | .local _ .vmem, ⟨38, _⟩ => ⟨S256x4096, .f32⟩
  | .local _ .vmem, ⟨39, _⟩ => ⟨S256x4096, .bf16⟩
  | _, _ => ⟨S49, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_call1_v0 : Ref sig .tc := ⟨.hbm, 33, rfl⟩
abbrev main_v10 : Ref sig .tc := ⟨.hbm, 34, rfl⟩
abbrev main_c_2 : Ref sig .tc := ⟨.hbm, 35, rfl⟩
abbrev main_call2_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev main_v24_3 : Ref sig .tc := ⟨.hbm, 53, rfl⟩
abbrev main_v24_4 : Ref sig .tc := ⟨.hbm, 54, rfl⟩
abbrev main_v24_5 : Ref sig .tc := ⟨.hbm, 55, rfl⟩
abbrev main_v24_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x4096 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S49 : Shape := ⟨1, ![49]⟩
abbrev S10415x1024 : Shape := ⟨2, ![10415, 1024]⟩
abbrev S10415 : Shape := ⟨1, ![10415]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S10415x4096 : Shape := ⟨2, ![10415, 4096]⟩
abbrev S10415x1 : Shape := ⟨2, ![10415, 1]⟩
abbrev S1x1024 : Shape := ⟨2, ![1, 1024]⟩
abbrev S1x4096 : Shape := ⟨2, ![1, 4096]⟩
abbrev S48 : Shape := ⟨1, ![48]⟩
abbrev S_ : Shape := ⟨0, ![]⟩
abbrev S48x1 : Shape := ⟨2, ![48, 1]⟩
abbrev S48x1024 : Shape := ⟨2, ![48, 1024]⟩

abbrev nBuf : Space → Nat
  | .hbm => 37
  | .vmem => 24
  | .smem => 0
  | _ => 0

abbrev bufTy : (tb : Table) → Fin (tcTables nBuf tb) → BufTy
  | .hbm, ⟨0, _⟩ => ⟨S49, .i32⟩
  | .hbm, ⟨1, _⟩ => ⟨S10415x1024, .i8⟩
  | .hbm, ⟨2, _⟩ => ⟨S10415, .f32⟩
  | .hbm, ⟨3, _⟩ => ⟨S10415x1024, .bf16⟩
  | .hbm, ⟨4, _⟩ => ⟨S1024x1024, .i8⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .i8⟩
  | .hbm, ⟨11, _⟩ => ⟨S4096, .f32⟩
  | .hbm, ⟨12, _⟩ => ⟨S4096, .f32⟩
  | .hbm, ⟨13, _⟩ => ⟨S4096x1024, .i8⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S10415x1024, .bf16⟩
  | .hbm, ⟨20, _⟩ => ⟨S10415x1024, .bf16⟩
  | .hbm, ⟨21, _⟩ => ⟨S10415x1024, .f32⟩
  | .hbm, ⟨22, _⟩ => ⟨S10415x1024, .i8⟩
  | .hbm, ⟨23, _⟩ => ⟨S10415, .f32⟩
  | .hbm, ⟨24, _⟩ => ⟨S10415x4096, .i8⟩
  | .hbm, ⟨25, _⟩ => ⟨S10415, .f32⟩
  | .hbm, ⟨26, _⟩ => ⟨S48, .i32⟩
  | .hbm, ⟨27, _⟩ => ⟨S_, .i32⟩
  | .hbm, ⟨28, _⟩ => ⟨S48, .i32⟩
  | .hbm, ⟨29, _⟩ => ⟨S48, .i1⟩
  | .hbm, ⟨30, _⟩ => ⟨S_, .i32⟩
  | .hbm, ⟨31, _⟩ => ⟨S48, .i32⟩
  | .hbm, ⟨32, _⟩ => ⟨S48, .i32⟩
  | .hbm, ⟨33, _⟩ => ⟨S48, .i32⟩
  | .hbm, ⟨34, _⟩ => ⟨S48x1, .i32⟩
  | .hbm, ⟨35, _⟩ => ⟨S48x1024, .f32⟩
  | .hbm, ⟨36, _⟩ => ⟨S48, .f32⟩
  | .local _ .vmem, ⟨0, _⟩ => ⟨S10415x1024, .i8⟩
  | .local _ .vmem, ⟨1, _⟩ => ⟨S10415, .f32⟩
  | .local _ .vmem, ⟨2, _⟩ => ⟨S10415x1024, .bf16⟩
  | .local _ .vmem, ⟨3, _⟩ => ⟨S1024x1024, .i8⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024x4096, .i8⟩
  | .local _ .vmem, ⟨10, _⟩ => ⟨S4096, .f32⟩
  | .local _ .vmem, ⟨11, _⟩ => ⟨S4096, .f32⟩
  | .local _ .vmem, ⟨12, _⟩ => ⟨S4096x1024, .i8⟩
  | .local _ .vmem, ⟨13, _⟩ => ⟨S1024, .f32⟩
  | .local _ .vmem, ⟨14, _⟩ => ⟨S1024, .f32⟩
  | .local _ .vmem, ⟨15, _⟩ => ⟨S1024, .f32⟩
  | .local _ .vmem, ⟨16, _⟩ => ⟨S1024, .f32⟩
  | .local _ .vmem, ⟨17, _⟩ => ⟨S10415x1024, .bf16⟩
  | .local _ .vmem, ⟨18, _⟩ => ⟨S10415x1024, .bf16⟩
  | .local _ .vmem, ⟨19, _⟩ => ⟨S10415x1024, .f32⟩
  | .local _ .vmem, ⟨20, _⟩ => ⟨S10415x1024, .i8⟩
  | .local _ .vmem, ⟨21, _⟩ => ⟨S10415, .f32⟩
  | .local _ .vmem, ⟨22, _⟩ => ⟨S10415x4096, .i8⟩
  | .local _ .vmem, ⟨23, _⟩ => ⟨S10415, .f32⟩
  | _, _ => ⟨S49, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S10415x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10415 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10415x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S10415x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S10415x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S10415x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S10415x1024 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S10415 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S10415x4096 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S10415 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.KernelRunA.lean ====
/- One run of the whole body of the program `Kernel`, in case A (A: the first point, which converts the weights; B: the
   others): the triple, with the pieces each buffer ends with as the witness. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (19, 20, 21, 22, 23, 24, 25) at anything, handed back at some contents nothing names. -/
noncomputable def kernelRun0_A (c : Dev nD) (i : grid0.Coords) (arg1 : Memref sig .tc .vmem S2x128 .i32) (harg1 : arg1.IsWhole) (arg2 : Memref sig .tc .vmem S256x1024 .i8) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1024x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x4096 .i8) (harg11 : arg11.IsWhole) (arg12 : Memref sig .tc .vmem S1x4096 .f32) (harg12 : arg12.IsWhole) (arg13 : Memref sig .tc .vmem S1x4096 .f32) (harg13 : arg13.IsWhole) (arg14 : Memref sig .tc .vmem S4096x1024 .i8) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S256x1024 .i8) (harg23 : arg23.IsWhole) (arg24 : Memref sig .tc .vmem S1x256 .f32) (harg24 : arg24.IsWhole) (arg25 : Memref sig .tc .vmem S256x4096 .i8) (harg25 : arg25.IsWhole) (arg26 : Memref sig .tc .vmem S1x256 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (arg30 : Memref sig .tc .vmem S256x4096 .f32) (harg30 : arg30.IsWhole) (arg31 : Memref sig .tc .vmem S256x4096 .bf16) (harg31 : arg31.IsWhole) (hc0 : cond0_0 i)
    (x0 : Vec F S2x128 .i32) (x1 : Vec F S256x1024 .i8) (x2 : Vec F S1x256 .f32) (x3 : Vec F S256x1024 .bf16) (x4 : Vec F S1024x1024 .i8) (x5 : Vec F S1x1024 .f32) (x6 : Vec F S1x1024 .f32) (x7 : Vec F S1x1024 .f32) (x8 : Vec F S1x1024 .f32) (x9 : Vec F S1x1024 .f32) (x10 : Vec F S1024x4096 .i8) (x11 : Vec F S1x4096 .f32) (x12 : Vec F S1x4096 .f32) (x13 : Vec F S4096x1024 .i8) (x14 : Vec F S1x1024 .f32) (x15 : Vec F S1x1024 .f32) (x16 : Vec F S1x1024 .f32) (x17 : Vec F S1x1024 .f32) (x18 : Vec F S1x1024 .f32) :
    Σ' (LS0 : List (View.Piece (Elt F) S1024x1024 .bf16)), { LS1 : List (View.Piece (Elt F) S1024x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1) ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, fun E K => ?run⟩
  case run =>
    simp only [cc0_ffn_eq_skeleton]; unfold cc0_ffn_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelRunB.lean ====
/- One run of the whole body of the program `Kernel`, in case B (A: the first point, which converts the weights; B: the
   others): the triple, with the pieces each buffer ends with as the witness. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 40: 40 of 41), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (19, 20, 21, 22, 23, 24, 25) at anything, handed back at some contents nothing names. -/
noncomputable def kernelRun0_B (c : Dev nD) (i : grid0.Coords) (arg1 : Memref sig .tc .vmem S2x128 .i32) (harg1 : arg1.IsWhole) (arg2 : Memref sig .tc .vmem S256x1024 .i8) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1024x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x4096 .i8) (harg11 : arg11.IsWhole) (arg12 : Memref sig .tc .vmem S1x4096 .f32) (harg12 : arg12.IsWhole) (arg13 : Memref sig .tc .vmem S1x4096 .f32) (harg13 : arg13.IsWhole) (arg14 : Memref sig .tc .vmem S4096x1024 .i8) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S256x1024 .i8) (harg23 : arg23.IsWhole) (arg24 : Memref sig .tc .vmem S1x256 .f32) (harg24 : arg24.IsWhole) (arg25 : Memref sig .tc .vmem S256x4096 .i8) (harg25 : arg25.IsWhole) (arg26 : Memref sig .tc .vmem S1x256 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (arg30 : Memref sig .tc .vmem S256x4096 .f32) (harg30 : arg30.IsWhole) (arg31 : Memref sig .tc .vmem S256x4096 .bf16) (harg31 : arg31.IsWhole) (hc0 : ¬cond0_0 i)
    (x0 : Vec F S2x128 .i32) (x1 : Vec F S256x1024 .i8) (x2 : Vec F S1x256 .f32) (x3 : Vec F S256x1024 .bf16) (x4 : Vec F S1024x1024 .i8) (x5 : Vec F S1x1024 .f32) (x6 : Vec F S1x1024 .f32) (x7 : Vec F S1x1024 .f32) (x8 : Vec F S1x1024 .f32) (x9 : Vec F S1x1024 .f32) (x10 : Vec F S1024x4096 .i8) (x11 : Vec F S1x4096 .f32) (x12 : Vec F S1x4096 .f32) (x13 : Vec F S4096x1024 .i8) (x14 : Vec F S1x1024 .f32) (x15 : Vec F S1x1024 .f32) (x16 : Vec F S1x1024 .f32) (x17 : Vec F S1x1024 .f32) (x18 : Vec F S1x1024 .f32) (xs0 : Vec F S1024x1024 .bf16) (xs1 : Vec F S1024x4096 .bf16) :
    Σ' (LS0 : List (View.Piece (Elt F) S1024x1024 .bf16)), { LS1 : List (View.Piece (Elt F) S1024x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1 ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1 ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨[], [], fun E K => ?run⟩
  case run =>
    simp only [cc0_ffn_eq_skeleton]; unfold cc0_ffn_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg27.eq_unread hfs0; obtain rfl := harg28.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]
    · iexists _; isplitr; · ipureintro; exact harg27.read_unread _
      iexact HS0
    isplitl [HS1]
    · iexists _; isplitr; · ipureintro; exact harg28.read_unread _
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.lean ====
/- The frame of the program `Kernel`: what every grid point leaves in the output blocks and in the carried scratch,
   the pipeline's proof data, the body's obligation at every point, the launch and the frame. The body's runs are
   stated at the point's own staging buffers and input blocks (`runA`, `runB`). -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t` of case A, at the point's staging buffers and input blocks. -/
abbrev runA (c : Dev nD) (t : Fin cfg0.N) (h0 : t.val % 41 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at point `t` of case B, over the score block `xo21` and the converted weights `xs·` the point before left. -/
abbrev runB (c : Dev nD) (t : Fin cfg0.N) (h0 : ¬t.val % 41 = 0) (xs0 : Vec F S1024x1024 .bf16) (xs1 : Vec F S1024x4096 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs0 xs1

/-- Case A's pieces for scratch `arg27`, which the kernel carries between points, cover it: 1 piece of `S1024x1024` tiling it (Lib/Ring.lean `Piece.tiledL`). -/
theorem scover0_A_0 (c : Dev nD) (t : Fin cfg0.N) (h0 : t.val % 41 = 0)
    (y : S1024x1024.Idx) :
    ∃ pc ∈ (runA m c t h0).1, y ∈ pc.1.set :=
  View.cover_of_tiledL (runA m c t h0).1 S1024x1024.size (by sl_kernel_rfl) y

/-- What case A leaves in scratch `arg27`: its pieces read back over junk. -/
def sout0_A_0 (c : Dev nD) (t : Fin cfg0.N) (h0 : t.val % 41 = 0)
    : Vec F S1024x1024 .bf16 :=
  VS0_0.read (Elt F) (VS0_0.writes (Elt F) VS0_0.junk (runA m c t h0).1)

/-- Case A's pieces for scratch `arg28`, which the kernel carries between points, cover it: 1 piece of `S1024x4096` tiling it (Lib/Ring.lean `Piece.tiledL`). -/
theorem scover0_A_1 (c : Dev nD) (t : Fin cfg0.N) (h0 : t.val % 41 = 0)
    (y : S1024x4096.Idx) :
    ∃ pc ∈ (runA m c t h0).2.1, y ∈ pc.1.set :=
  View.cover_of_tiledL (runA m c t h0).2.1 S1024x4096.size (by sl_kernel_rfl) y

/-- What case A leaves in scratch `arg28`: its pieces read back over junk. -/
def sout0_A_1 (c : Dev nD) (t : Fin cfg0.N) (h0 : t.val % 41 = 0)
    : Vec F S1024x4096 .bf16 :=
  VS0_1.read (Elt F) (VS0_1.writes (Elt F) VS0_1.junk (runA m c t h0).2.1)

/-- Case B stores nothing into scratch `arg27`: it holds what the point before left. -/
def sout0_B_0 (c : Dev nD) (t : Fin cfg0.N) (h0 : ¬t.val % 41 = 0)
    (xs0 : Vec F S1024x1024 .bf16) (xs1 : Vec F S1024x4096 .bf16) : Vec F S1024x1024 .bf16 := xs0

/-- Case B stores nothing into scratch `arg28`: it holds what the point before left. -/
def sout0_B_1 (c : Dev nD) (t : Fin cfg0.N) (h0 : ¬t.val % 41 = 0)
    (xs0 : Vec F S1024x1024 .bf16) (xs1 : Vec F S1024x4096 .bf16) : Vec F S1024x4096 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .bf16 × Vec F S1024x4096 .bf16
  | 0, hn => (sout0_A_0 m c ⟨0, hn⟩ (Nat.zero_mod _), sout0_A_1 m c ⟨0, hn⟩ (Nat.zero_mod _))
  | n + 1, hn =>
    if h0 : (n + 1) % 41 = 0 then
      (sout0_A_0 m c ⟨n + 1, hn⟩ h0, sout0_A_1 m c ⟨n + 1, hn⟩ h0)
    else
      (sout0_B_0 c ⟨n + 1, hn⟩ h0 (outsAt0 c n (Nat.lt_of_succ_lt hn)).1 (outsAt0 c n (Nat.lt_of_succ_lt hn)).2, sout0_B_1 c ⟨n + 1, hn⟩ h0 (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 41 = 0) :
    outsAt0 m c t.val t.isLt = (sout0_A_0 m c t h0, sout0_A_1 m c t h0) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 41 = 0) :
    outsAt0 m c t.val t.isLt = (sout0_B_0 c t h0 (outsAt0 m c (t.val - 1) (Nat.lt_of_le_of_lt (Nat.sub_le _ _) t.isLt)).1 (outsAt0 m c (t.val - 1) (Nat.lt_of_le_of_lt (Nat.sub_le _ _) t.isLt)).2, sout0_B_1 c t h0 (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (19, 20, 21, 22, 23, 24, 25): nothing reads what the kernel leaves in them, so nothing
    of it is named (Lib/Pipeline/Dat.lean `Dat.toRForget`). -/
def forgets0 : Fin 26 → Bool := fun w => w.val == 19 || w.val == 20 || w.val == 21 || w.val == 22 || w.val == 23 || w.val == 24 || w.val == 25

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 41 := lt_of_lt_of_eq t.isLt (show cfg0.N = 41 from N_0)
  by_cases h0 : t.val % 41 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runA m c t h0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, ⟨%es0, HS0⟩, ⟨%es1, HS1⟩, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
    · exfalso; have hN : t.val < 41 := lt_of_lt_of_eq t.isLt (show cfg0.N = 41 from N_0); omega
  · by_cases hz : t.val = 0
    · exfalso; have hN : t.val < 41 := lt_of_lt_of_eq t.isLt (show cfg0.N = 41 from N_0); omega
    · rw [PhiS_castSucc m c t, PhiS_pos m c _ _ hz]
      rw [outsAt0_B m c t h0]
      unfold sout0_B_0 sout0_B_1; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB m c t h0 _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, H23, H24, H25, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 41 := N_0; omega)

/-! ## The lines after the region, and the arguments -/

/-- The buffers that the lines after the region write: nothing is stated of them. -/
def T0 : Finset (Ref sig .tc) := {main_v25, main_v26, main_v27, main_v28, main_v29, main_v30, main_v31, main_v32, main_v33, main_v34}
/-- Those lines write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The arguments end unchanged, from a run that states nothing of the outputs. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      (Pipeline.RDat.FramePostR.arr_in h c 10 rfl).trans ((hA c 10).trans (V_main_arg10 m c)),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      (Pipeline.RDat.FramePostR.arr_in h c 13 rfl).trans ((hA c 13).trans (V_main_arg13 m c)),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c),
      ((h c).2 main_arg18 (Finset.mem_sdiff.mpr ⟨Pipeline.mem_restRefs_of main_arg18 (by decide) (by decide), by decide⟩)).trans (V_main_arg18 m c)⟩) h

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 19, 20, 21, 22, 23, 24, 25) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  unchanged_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel.Gen

end
-- ==== Proof.KernelIdealRunA.lean ====
/- One run of the whole body of the program `KernelIdeal`, in case A (A: the first point, which converts the weights; B: the
   others): the triple, with the pieces each buffer ends with as the witness. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2x128 .i32) (harg1 : arg1.IsWhole) (arg2 : Memref sig .tc .vmem S256x1024 .i8) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1024x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x4096 .i8) (harg11 : arg11.IsWhole) (arg12 : Memref sig .tc .vmem S1x4096 .f32) (harg12 : arg12.IsWhole) (arg13 : Memref sig .tc .vmem S1x4096 .f32) (harg13 : arg13.IsWhole) (arg14 : Memref sig .tc .vmem S4096x1024 .i8) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S256x1024 .i8) (harg23 : arg23.IsWhole) (arg24 : Memref sig .tc .vmem S1x256 .f32) (harg24 : arg24.IsWhole) (arg25 : Memref sig .tc .vmem S256x4096 .i8) (harg25 : arg25.IsWhole) (arg26 : Memref sig .tc .vmem S1x256 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (arg30 : Memref sig .tc .vmem S256x4096 .f32) (harg30 : arg30.IsWhole) (arg31 : Memref sig .tc .vmem S256x4096 .bf16) (harg31 : arg31.IsWhole) (hc0 : cond0_0 i)
    (x0 : Vec F S2x128 .i32) (x1 : Vec F S256x1024 .i8) (x2 : Vec F S1x256 .f32) (x3 : Vec F S256x1024 .bf16) (x4 : Vec F S1024x1024 .i8) (x5 : Vec F S1x1024 .f32) (x6 : Vec F S1x1024 .f32) (x7 : Vec F S1x1024 .f32) (x8 : Vec F S1x1024 .f32) (x9 : Vec F S1x1024 .f32) (x10 : Vec F S1024x4096 .i8) (x11 : Vec F S1x4096 .f32) (x12 : Vec F S1x4096 .f32) (x13 : Vec F S4096x1024 .i8) (x14 : Vec F S1x1024 .f32) (x15 : Vec F S1x1024 .f32) (x16 : Vec F S1x1024 .f32) (x17 : Vec F S1x1024 .f32) (x18 : Vec F S1x1024 .f32) :
    Σ' (L19 : List (View.Piece (Elt F) S256x1024 .bf16)), Σ' (L20 : List (View.Piece (Elt F) S256x1024 .bf16)), Σ' (L21 : List (View.Piece (Elt F) S1x128 .f32)), Σ' (L22 : List (View.Piece (Elt F) S256x1024 .i8)), Σ' (L23 : List (View.Piece (Elt F) S1x256 .f32)), Σ' (L24 : List (View.Piece (Elt F) S256x4096 .i8)), Σ' (L25 : List (View.Piece (Elt F) S1x256 .f32)), Σ' (LS0 : List (View.Piece (Elt F) S1024x1024 .bf16)), Σ' (LS1 : List (View.Piece (Elt F) S1024x4096 .bf16)), Σ' (LS2 : List (View.Piece (Elt F) S4096x1024 .bf16)), Σ' (LT3 : List (View.Piece (Elt F) S256x4096 .f32)), { LT4 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1) ∗ (∃ f, arg29.view.loc (c : Thread nD τ) ↦[arg29.view.set]{fullShare} arg29.view.writes (Elt F) f LS2) ∗ (∃ f, arg30.view.loc (c : Thread nD τ) ↦[arg30.view.set]{fullShare} arg30.view.writes (Elt F) f LT3) ∗ (∃ f, arg31.view.loc (c : Thread nD τ) ↦[arg31.view.set]{fullShare} arg31.view.writes (Elt F) f LT4)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, ?_, ?_, fun E K => ?run⟩
  case run =>
    simp only [cc0_ffn_eq_skeleton]; unfold cc0_ffn_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.KernelIdealRunB.lean ====
/- One run of the whole body of the program `KernelIdeal`, in case B (A: the first point, which converts the weights; B: the
   others): the triple, with the pieces each buffer ends with as the witness. -/
module

public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 40: 40 of 41), WITH the
    proof that on whole staging memrefs — the inputs' at their contents, the outputs it reads before covering (21) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2x128 .i32) (harg1 : arg1.IsWhole) (arg2 : Memref sig .tc .vmem S256x1024 .i8) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1024x1024 .i8) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x4096 .i8) (harg11 : arg11.IsWhole) (arg12 : Memref sig .tc .vmem S1x4096 .f32) (harg12 : arg12.IsWhole) (arg13 : Memref sig .tc .vmem S1x4096 .f32) (harg13 : arg13.IsWhole) (arg14 : Memref sig .tc .vmem S4096x1024 .i8) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S256x1024 .i8) (harg23 : arg23.IsWhole) (arg24 : Memref sig .tc .vmem S1x256 .f32) (harg24 : arg24.IsWhole) (arg25 : Memref sig .tc .vmem S256x4096 .i8) (harg25 : arg25.IsWhole) (arg26 : Memref sig .tc .vmem S1x256 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (arg30 : Memref sig .tc .vmem S256x4096 .f32) (harg30 : arg30.IsWhole) (arg31 : Memref sig .tc .vmem S256x4096 .bf16) (harg31 : arg31.IsWhole) (hc0 : ¬cond0_0 i)
    (x0 : Vec F S2x128 .i32) (x1 : Vec F S256x1024 .i8) (x2 : Vec F S1x256 .f32) (x3 : Vec F S256x1024 .bf16) (x4 : Vec F S1024x1024 .i8) (x5 : Vec F S1x1024 .f32) (x6 : Vec F S1x1024 .f32) (x7 : Vec F S1x1024 .f32) (x8 : Vec F S1x1024 .f32) (x9 : Vec F S1x1024 .f32) (x10 : Vec F S1024x4096 .i8) (x11 : Vec F S1x4096 .f32) (x12 : Vec F S1x4096 .f32) (x13 : Vec F S4096x1024 .i8) (x14 : Vec F S1x1024 .f32) (x15 : Vec F S1x1024 .f32) (x16 : Vec F S1x1024 .f32) (x17 : Vec F S1x1024 .f32) (x18 : Vec F S1x1024 .f32) (xo21 : Vec F S1x128 .f32) (xs0 : Vec F S1024x1024 .bf16) (xs1 : Vec F S1024x4096 .bf16) (xs2 : Vec F S4096x1024 .bf16) :
    Σ' (L19 : List (View.Piece (Elt F) S256x1024 .bf16)), Σ' (L20 : List (View.Piece (Elt F) S256x1024 .bf16)), Σ' (L21 : List (View.Piece (Elt F) S1x128 .f32)), Σ' (L22 : List (View.Piece (Elt F) S256x1024 .i8)), Σ' (L23 : List (View.Piece (Elt F) S1x256 .f32)), Σ' (L24 : List (View.Piece (Elt F) S256x4096 .i8)), Σ' (L25 : List (View.Piece (Elt F) S1x256 .f32)), Σ' (LS0 : List (View.Piece (Elt F) S1024x1024 .bf16)), Σ' (LS1 : List (View.Piece (Elt F) S1024x4096 .bf16)), Σ' (LS2 : List (View.Piece (Elt F) S4096x1024 .bf16)), Σ' (LT3 : List (View.Piece (Elt F) S256x4096 .f32)), { LT4 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare xo21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ owns (c : Thread nD τ) arg28 fullShare xs1 ∗ owns (c : Thread nD τ) arg29 fullShare xs2 ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ owns (c : Thread nD τ) arg27 fullShare xs0 ∗ owns (c : Thread nD τ) arg28 fullShare xs1 ∗ owns (c : Thread nD τ) arg29 fullShare xs2 ∗ (∃ f, arg30.view.loc (c : Thread nD τ) ↦[arg30.view.set]{fullShare} arg30.view.writes (Elt F) f LT3) ∗ (∃ f, arg31.view.loc (c : Thread nD τ) ↦[arg31.view.set]{fullShare} arg31.view.writes (Elt F) f LT4)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, [], [], [], ?_, ?_, fun E K => ?run⟩
  case run =>
    simp only [cc0_ffn_eq_skeleton]; unfold cc0_ffn_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg22.eq_unread hf21; obtain rfl := harg27.eq_unread hfs0; obtain rfl := harg28.eq_unread hfs1; obtain rfl := harg29.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]
    · iexists _; isplitr; · ipureintro; exact harg27.read_unread _
      iexact HS0
    isplitl [HS1]
    · iexists _; isplitr; · ipureintro; exact harg28.read_unread _
      iexact HS1
    isplitl [HS2]
    · iexists _; isplitr; · ipureintro; exact harg29.read_unread _
      iexact HS2
    isplitl [HS3]; · iexists _; iexact HS3
    iexists _; iexact HS4

end Cert.KernelIdeal.Gen

end
-- ==== Proof.KernelIdealFrame.lean ====
/- The frame of the program `KernelIdeal`: what every grid point leaves in the output blocks and in the carried scratch,
   the pipeline's proof data, the body's obligation at every point, the launch and the frame. The body's runs are
   stated at the point's own staging buffers and input blocks (`runA`, `runB`). -/
module

public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t` of case A, at the point's staging buffers and input blocks. -/
abbrev runA (c : Dev nD) (t : Fin cfg0.N) (h0 : t.val % 41 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at point `t` of case B, over the score block `xo21` and the converted weights `xs·` the point before left. -/
abbrev runB (c : Dev nD) (t : Fin cfg0.N) (h0 : ¬t.val % 41 = 0) (xo21 : Vec F S1x128 .f32) (xs0 : Vec F S1024x1024 .bf16) (xs1 : Vec F S1024x4096 .bf16) (xs2 : Vec F S4096x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xo21 xs0 xs1 xs2

/-- Case A's pieces for output 19 tile its block (1 store of `S256x1024`, checked by the kernel's evaluation: Lib/Ring.lean `Piece.tiledL`, linear in the pieces, through a loop's `@[irreducible]` trip theorem too), so they cover it. -/
theorem cover0_A_19 (c : Dev nD) (t : Fin cfg0.N) (h0 : t.val % 41 = 0)
    (y : S256x1024.Idx) :
    ∃ pc ∈ (runA m c t h0).1, y ∈ pc.1.set :=
  View.cover_of_tiledL (runA m c t h0).1 S256x1024.size (by sl_kernel_rfl) y

/-- What case A leaves in output 19's staging buffer: its pieces read back over junk. -/
def out0_A_19 (c : Dev nD) (t : Fin cfg0.N) (h0 : t.val % 41 = 0)
    : Vec F S256x1024 .bf16 :=
  VO0_19.read (Elt F) (VO0_19.writes (Elt F) VO0_19.junk (runA m c t h0).1)

/-- Case A's pieces for output 20 tile its block (1 store of `S256x1024`, checked by the kernel's evaluation: Lib/Ring.lean `Piece.tiledL`, linear in the pieces, through a loop's `@[irreducible]` trip theorem too), so they cover it. -/
theorem cover0_A_20 (c : Dev nD) (t : Fin cfg0.N) (h0 : t.val % 41 = 0)
    (y : S256x1024.Idx) :
    ∃ pc ∈ (runA m c t h0).2.1, y ∈ pc.1.set :=
  View.cover_of_tiledL (runA m c t h0).2.1 S256x1024.size (by sl_kernel_rfl) y

/-- What case A leaves in output 20's staging buffer: its pieces read back over junk. -/
def out0_A_20 (c : Dev nD) (t : Fin cfg0.N) (h0 : t.val % 41 = 0)
    : Vec F S256x1024 .bf16 :=
  VO0_20.read (Elt F) (VO0_20.writes (Elt F) VO0_20.junk (runA m c t h0).2.1)

/-- Case A's pieces for output 21 tile its block (2 stores of `S1x128`, checked by the kernel's evaluation: Lib/Ring.lean `Piece.tiledL`, linear in the pieces, through a loop's `@[irreducible]` trip theorem too), so they cover it. -/
theorem cover0_A_21 (c : Dev nD) (t : Fin cfg0.N) (h0 : t.val % 41 = 0)
    (y : S1x128.Idx) :
    ∃ pc ∈ (runA m c t h0).2.2.1, y ∈ pc.1.set :=
  View.cover_of_tiledL (runA m c t h0).2.2.1 S1x128.size (by sl_kernel_rfl) y

/-- What case A leaves in output 21's staging buffer: its pieces read back over junk. -/
def out0_A_21 (c : Dev nD) (t : Fin cfg0.N) (h0 : t.val % 41 = 0)
    : Vec F S1x128 .f32 :=
  VO0_21.read (Elt F) (VO0_21.writes (Elt F) VO0_21.junk (runA m c t h0).2.2.1)

/-- Case A's pieces for output 22 tile its block (1 store of `S256x1024`, checked by the kernel's evaluation: Lib/Ring.lean `Piece.tiledL`, linear in the pieces, through a loop's `@[irreducible]` trip theorem too), so they cover it. -/
theorem cover0_A_22 (c : Dev nD) (t : Fin cfg0.N) (h0 : t.val % 41 = 0)
    (y : S256x1024.Idx) :
    ∃ pc ∈ (runA m c t h0).2.2.2.1, y ∈ pc.1.set :=
  View.cover_of_tiledL (runA m c t h0).2.2.2.1 S256x1024.size (by sl_kernel_rfl) y

/-- What case A leaves in output 22's staging buffer: its pieces read back over junk. -/
def out0_A_22 (c : Dev nD) (t : Fin cfg0.N) (h0 : t.val % 41 = 0)
    : Vec F S256x1024 .i8 :=
  VO0_22.read (Elt F) (VO0_22.writes (Elt F) VO0_22.junk (runA m c t h0).2.2.2.1)

/-- Case A's pieces for output 23 tile its block (1 store of `S1x256`, checked by the kernel's evaluation: Lib/Ring.lean `Piece.tiledL`, linear in the pieces, through a loop's `@[irreducible]` trip theorem too), so they cover it. -/
theorem cover0_A_23 (c : Dev nD) (t : Fin cfg0.N) (h0 : t.val % 41 = 0)
    (y : S1x256.Idx) :
    ∃ pc ∈ (runA m c t h0).2.2.2.2.1, y ∈ pc.1.set :=
  View.cover_of_tiledL (runA m c t h0).2.2.2.2.1 S1x256.size (by sl_kernel_rfl) y

/-- What case A leaves in output 23's staging buffer: its pieces read back over junk. -/
def out0_A_23 (c : Dev nD) (t : Fin cfg0.N) (h0 : t.val % 41 = 0)
    : Vec F S1x256 .f32 :=
  VO0_23.read (Elt F) (VO0_23.writes (Elt F) VO0_23.junk (runA m c t h0).2.2.2.2.1)

/-- Case A's pieces for output 24 tile its block (8 stores of `S256x512`, checked by the kernel's evaluation: Lib/Ring.lean `Piece.tiledL`, linear in the pieces, through a loop's `@[irreducible]` trip theorem too), so they cover it. -/
theorem cover0_A_24 (c : Dev nD) (t : Fin cfg0.N) (h0 : t.val % 41 = 0)
    (y : S256x4096.Idx) :
    ∃ pc ∈ (runA m c t h0).2.2.2.2.2.1, y ∈ pc.1.set :=
  View.cover_of_tiledL (runA m c t h0).2.2.2.2.2.1 S256x512.size (by sl_kernel_rfl) y

/-- What case A leaves in output 24's staging buffer: its pieces read back over junk. -/
def out0_A_24 (c : Dev nD) (t : Fin cfg0.N) (h0 : t.val % 41 = 0)
    : Vec F S256x4096 .i8 :=
  VO0_24.read (Elt F) (VO0_24.writes (Elt F) VO0_24.junk (runA m c t h0).2.2.2.2.2.1)

/-- Case A's pieces for output 25 tile its block (1 store of `S1x256`, checked by the kernel's evaluation: Lib/Ring.lean `Piece.tiledL`, linear in the pieces, through a loop's `@[irreducible]` trip theorem too), so they cover it. -/
theorem cover0_A_25 (c : Dev nD) (t : Fin cfg0.N) (h0 : t.val % 41 = 0)
    (y : S1x256.Idx) :
    ∃ pc ∈ (runA m c t h0).2.2.2.2.2.2.1, y ∈ pc.1.set :=
  View.cover_of_tiledL (runA m c t h0).2.2.2.2.2.2.1 S1x256.size (by sl_kernel_rfl) y

/-- What case A leaves in output 25's staging buffer: its pieces read back over junk. -/
def out0_A_25 (c : Dev nD) (t : Fin cfg0.N) (h0 : t.val % 41 = 0)
    : Vec F S1x256 .f32 :=
  VO0_25.read (Elt F) (VO0_25.writes (Elt F) VO0_25.junk (runA m c t h0).2.2.2.2.2.2.1)

/-- Case A's pieces for scratch `arg27`, which the kernel carries between points, cover it: 1 piece of `S1024x1024` tiling it (Lib/Ring.lean `Piece.tiledL`). -/
theorem scover0_A_0 (c : Dev nD) (t : Fin cfg0.N) (h0 : t.val % 41 = 0)
    (y : S1024x1024.Idx) :
    ∃ pc ∈ (runA m c t h0).2.2.2.2.2.2.2.1, y ∈ pc.1.set :=
  View.cover_of_tiledL (runA m c t h0).2.2.2.2.2.2.2.1 S1024x1024.size (by sl_kernel_rfl) y

/-- What case A leaves in scratch `arg27`: its pieces read back over junk. -/
def sout0_A_0 (c : Dev nD) (t : Fin cfg0.N) (h0 : t.val % 41 = 0)
    : Vec F S1024x1024 .bf16 :=
  VS0_0.read (Elt F) (VS0_0.writes (Elt F) VS0_0.junk (runA m c t h0).2.2.2.2.2.2.2.1)

/-- Case A's pieces for scratch `arg28`, which the kernel carries between points, cover it: 1 piece of `S1024x4096` tiling it (Lib/Ring.lean `Piece.tiledL`). -/
theorem scover0_A_1 (c : Dev nD) (t : Fin cfg0.N) (h0 : t.val % 41 = 0)
    (y : S1024x4096.Idx) :
    ∃ pc ∈ (runA m c t h0).2.2.2.2.2.2.2.2.1, y ∈ pc.1.set :=
  View.cover_of_tiledL (runA m c t h0).2.2.2.2.2.2.2.2.1 S1024x4096.size (by sl_kernel_rfl) y

/-- What case A leaves in scratch `arg28`: its pieces read back over junk. -/
def sout0_A_1 (c : Dev nD) (t : Fin cfg0.N) (h0 : t.val % 41 = 0)
    : Vec F S1024x4096 .bf16 :=
  VS0_1.read (Elt F) (VS0_1.writes (Elt F) VS0_1.junk (runA m c t h0).2.2.2.2.2.2.2.2.1)

/-- Case A's pieces for scratch `arg29`, which the kernel carries between points, cover it: 1 piece of `S4096x1024` tiling it (Lib/Ring.lean `Piece.tiledL`). -/
theorem scover0_A_2 (c : Dev nD) (t : Fin cfg0.N) (h0 : t.val % 41 = 0)
    (y : S4096x1024.Idx) :
    ∃ pc ∈ (runA m c t h0).2.2.2.2.2.2.2.2.2.1, y ∈ pc.1.set :=
  View.cover_of_tiledL (runA m c t h0).2.2.2.2.2.2.2.2.2.1 S4096x1024.size (by sl_kernel_rfl) y

/-- What case A leaves in scratch `arg29`: its pieces read back over junk. -/
def sout0_A_2 (c : Dev nD) (t : Fin cfg0.N) (h0 : t.val % 41 = 0)
    : Vec F S4096x1024 .bf16 :=
  VS0_2.read (Elt F) (VS0_2.writes (Elt F) VS0_2.junk (runA m c t h0).2.2.2.2.2.2.2.2.2.1)

/-- Case B's pieces for output 19 tile its block (1 store of `S256x1024`, checked by the kernel's evaluation: Lib/Ring.lean `Piece.tiledL`, linear in the pieces, through a loop's `@[irreducible]` trip theorem too), so they cover it. -/
theorem cover0_B_19 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S256x1024.Idx) :
    ∃ pc ∈ (runB m c t h0 xo21 xs0 xs1 xs2).1, y ∈ pc.1.set :=
  View.cover_of_tiledL (runB m c t h0 xo21 xs0 xs1 xs2).1 S256x1024.size (by sl_kernel_rfl) y

/-- What case B leaves in output 19's staging buffer: its pieces read back over junk. -/
def out0_B_19 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S256x1024 .bf16 :=
  VO0_19.read (Elt F) (VO0_19.writes (Elt F) VO0_19.junk (runB m c t h0 xo21 xs0 xs1 xs2).1)

/-- Case B's pieces for output 20 tile its block (1 store of `S256x1024`, checked by the kernel's evaluation: Lib/Ring.lean `Piece.tiledL`, linear in the pieces, through a loop's `@[irreducible]` trip theorem too), so they cover it. -/
theorem cover0_B_20 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S256x1024.Idx) :
    ∃ pc ∈ (runB m c t h0 xo21 xs0 xs1 xs2).2.1, y ∈ pc.1.set :=
  View.cover_of_tiledL (runB m c t h0 xo21 xs0 xs1 xs2).2.1 S256x1024.size (by sl_kernel_rfl) y

/-- What case B leaves in output 20's staging buffer: its pieces read back over junk. -/
def out0_B_20 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S256x1024 .bf16 :=
  VO0_20.read (Elt F) (VO0_20.writes (Elt F) VO0_20.junk (runB m c t h0 xo21 xs0 xs1 xs2).2.1)

/-- Case B's pieces for output 21 tile its block (1 store of `S1x128`, checked by the kernel's evaluation: Lib/Ring.lean `Piece.tiledL`, linear in the pieces, through a loop's `@[irreducible]` trip theorem too), so they cover it. -/
theorem cover0_B_21 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S1x128.Idx) :
    ∃ pc ∈ (runB m c t h0 xo21 xs0 xs1 xs2).2.2.1, y ∈ pc.1.set :=
  View.cover_of_tiledL (runB m c t h0 xo21 xs0 xs1 xs2).2.2.1 S1x128.size (by sl_kernel_rfl) y

/-- What case B leaves in output 21's staging buffer: its pieces read back over junk. -/
def out0_B_21 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S1x128 .f32 :=
  VO0_21.read (Elt F) (VO0_21.writes (Elt F) VO0_21.junk (runB m c t h0 xo21 xs0 xs1 xs2).2.2.1)

/-- Case B's pieces for output 22 tile its block (1 store of `S256x1024`, checked by the kernel's evaluation: Lib/Ring.lean `Piece.tiledL`, linear in the pieces, through a loop's `@[irreducible]` trip theorem too), so they cover it. -/
theorem cover0_B_22 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S256x1024.Idx) :
    ∃ pc ∈ (runB m c t h0 xo21 xs0 xs1 xs2).2.2.2.1, y ∈ pc.1.set :=
  View.cover_of_tiledL (runB m c t h0 xo21 xs0 xs1 xs2).2.2.2.1 S256x1024.size (by sl_kernel_rfl) y

/-- What case B leaves in output 22's staging buffer: its pieces read back over junk. -/
def out0_B_22 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S256x1024 .i8 :=
  VO0_22.read (Elt F) (VO0_22.writes (Elt F) VO0_22.junk (runB m c t h0 xo21 xs0 xs1 xs2).2.2.2.1)

/-- Case B's pieces for output 23 tile its block (1 store of `S1x256`, checked by the kernel's evaluation: Lib/Ring.lean `Piece.tiledL`, linear in the pieces, through a loop's `@[irreducible]` trip theorem too), so they cover it. -/
theorem cover0_B_23 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S1x256.Idx) :
    ∃ pc ∈ (runB m c t h0 xo21 xs0 xs1 xs2).2.2.2.2.1, y ∈ pc.1.set :=
  View.cover_of_tiledL (runB m c t h0 xo21 xs0 xs1 xs2).2.2.2.2.1 S1x256.size (by sl_kernel_rfl) y

/-- What case B leaves in output 23's staging buffer: its pieces read back over junk. -/
def out0_B_23 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S1x256 .f32 :=
  VO0_23.read (Elt F) (VO0_23.writes (Elt F) VO0_23.junk (runB m c t h0 xo21 xs0 xs1 xs2).2.2.2.2.1)

/-- Case B's pieces for output 24 tile its block (8 stores of `S256x512`, checked by the kernel's evaluation: Lib/Ring.lean `Piece.tiledL`, linear in the pieces, through a loop's `@[irreducible]` trip theorem too), so they cover it. -/
theorem cover0_B_24 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S256x4096.Idx) :
    ∃ pc ∈ (runB m c t h0 xo21 xs0 xs1 xs2).2.2.2.2.2.1, y ∈ pc.1.set :=
  View.cover_of_tiledL (runB m c t h0 xo21 xs0 xs1 xs2).2.2.2.2.2.1 S256x512.size (by sl_kernel_rfl) y

/-- What case B leaves in output 24's staging buffer: its pieces read back over junk. -/
def out0_B_24 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S256x4096 .i8 :=
  VO0_24.read (Elt F) (VO0_24.writes (Elt F) VO0_24.junk (runB m c t h0 xo21 xs0 xs1 xs2).2.2.2.2.2.1)

/-- Case B's pieces for output 25 tile its block (1 store of `S1x256`, checked by the kernel's evaluation: Lib/Ring.lean `Piece.tiledL`, linear in the pieces, through a loop's `@[irreducible]` trip theorem too), so they cover it. -/
theorem cover0_B_25 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) (y : S1x256.Idx) :
    ∃ pc ∈ (runB m c t h0 xo21 xs0 xs1 xs2).2.2.2.2.2.2.1, y ∈ pc.1.set :=
  View.cover_of_tiledL (runB m c t h0 xo21 xs0 xs1 xs2).2.2.2.2.2.2.1 S1x256.size (by sl_kernel_rfl) y

/-- What case B leaves in output 25's staging buffer: its pieces read back over junk. -/
def out0_B_25 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S1x256 .f32 :=
  VO0_25.read (Elt F) (VO0_25.writes (Elt F) VO0_25.junk (runB m c t h0 xo21 xs0 xs1 xs2).2.2.2.2.2.2.1)

/-- Case B stores nothing into scratch `arg27`: it holds what the point before left. -/
def sout0_B_0 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S1024x1024 .bf16 := xs0

/-- Case B stores nothing into scratch `arg28`: it holds what the point before left. -/
def sout0_B_1 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S1024x4096 .bf16 := xs1

/-- Case B stores nothing into scratch `arg29`: it holds what the point before left. -/
def sout0_B_2 (c : Dev nD) (t : Fin cfg0.N) (h0 : ¬t.val % 41 = 0)
    (xo21 : Vec F S1x128 .f32) (xs0 : Vec F S1024x1024 .bf16) (xs1 : Vec F S1024x4096 .bf16) (xs2 : Vec F S4096x1024 .bf16) : Vec F S4096x1024 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S256x1024 .bf16 × Vec F S1x128 .f32 × Vec F S256x1024 .i8 × Vec F S1x256 .f32 × Vec F S256x4096 .i8 × Vec F S1x256 .f32 × Vec F S1024x1024 .bf16 × Vec F S1024x4096 .bf16 × Vec F S4096x1024 .bf16
  | 0, hn => (out0_A_19 m c ⟨0, hn⟩ (Nat.zero_mod _), out0_A_20 m c ⟨0, hn⟩ (Nat.zero_mod _), out0_A_21 m c ⟨0, hn⟩ (Nat.zero_mod _), out0_A_22 m c ⟨0, hn⟩ (Nat.zero_mod _), out0_A_23 m c ⟨0, hn⟩ (Nat.zero_mod _), out0_A_24 m c ⟨0, hn⟩ (Nat.zero_mod _), out0_A_25 m c ⟨0, hn⟩ (Nat.zero_mod _), sout0_A_0 m c ⟨0, hn⟩ (Nat.zero_mod _), sout0_A_1 m c ⟨0, hn⟩ (Nat.zero_mod _), sout0_A_2 m c ⟨0, hn⟩ (Nat.zero_mod _))
  | n + 1, hn =>
    if h0 : (n + 1) % 41 = 0 then
      (out0_A_19 m c ⟨n + 1, hn⟩ h0, out0_A_20 m c ⟨n + 1, hn⟩ h0, out0_A_21 m c ⟨n + 1, hn⟩ h0, out0_A_22 m c ⟨n + 1, hn⟩ h0, out0_A_23 m c ⟨n + 1, hn⟩ h0, out0_A_24 m c ⟨n + 1, hn⟩ h0, out0_A_25 m c ⟨n + 1, hn⟩ h0, sout0_A_0 m c ⟨n + 1, hn⟩ h0, sout0_A_1 m c ⟨n + 1, hn⟩ h0, sout0_A_2 m c ⟨n + 1, hn⟩ h0)
    else
      (out0_B_19 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_20 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_21 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_22 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_23 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_24 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_25 m c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_0 c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_1 c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_2 c ⟨n + 1, hn⟩ h0 (outsAt0 c n (Nat.lt_of_succ_lt hn)).2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)

/-- `outsAt0` at a point of case A: that case's contents. -/
theorem outsAt0_A (c : Dev nD) (t : Fin cfg0.N) (h0 : t.val % 41 = 0) :
    outsAt0 m c t.val t.isLt = (out0_A_19 m c t h0, out0_A_20 m c t h0, out0_A_21 m c t h0, out0_A_22 m c t h0, out0_A_23 m c t h0, out0_A_24 m c t h0, out0_A_25 m c t h0, sout0_A_0 m c t h0, sout0_A_1 m c t h0, sout0_A_2 m c t h0) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 41 = 0) :
    outsAt0 m c t.val t.isLt = (out0_B_19 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_20 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_21 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_22 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_23 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_24 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_25 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_1 c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_2 c t h0 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨25, _⟩ => (outsAt0 m c t.val t.isLt).2.2.2.2.2.2.1
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]
theorem after0_24 (c : Dev nD) (t : Fin cfg0.N) : (dats m 0 c).after 24 t = (outsAt0 m c t.val t.isLt).2.2.2.2.2.1 := by dsimp only [dats]
theorem after0_25 (c : Dev nD) (t : Fin cfg0.N) : (dats m 0 c).after 25 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 41 = 0) (d) :
    (dats m 0 c).before 21 t d = (outsAt0 m c (t.val - 1) (Nat.lt_of_le_of_lt (Nat.sub_le _ _) t.isLt)).2.2.1 := by
  have hN : t.val < 41 := lt_of_lt_of_eq t.isLt (show cfg0.N = 41 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 41 := lt_of_lt_of_eq t.isLt (show cfg0.N = 41 from N_0)
  by_cases h0 : t.val % 41 = 0
  · by_cases hz : t.val = 0
    · rw [PhiS_castSucc m c t, PhiS_zero m c _ _ hz, PhiA0_eq]
      rw [outsAt0_A m c t h0]
      unfold out0_A_19 out0_A_20 out0_A_21 out0_A_22 out0_A_23 out0_A_24 out0_A_25 sout0_A_0 sout0_A_1 sout0_A_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runA m c t h0).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%es2, HS2⟩, ⟨%fT3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · unfold owns; iexists _; isplitr
            swap; · iexact HS2
            ipureintro; exact View.read_writes_of_cover _ _ _ _ _ (scover0_A_2 m c t h0)
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · unfold owns; iexists _; isplitr
        swap; · iexact H19
        ipureintro; exact View.read_writes_of_cover _ _ _ _ _ (cover0_A_19 m c t h0)
      isplitl [H20]
      · unfold owns; iexists _; isplitr
        swap; · iexact H20
        ipureintro; exact View.read_writes_of_cover _ _ _ _ _ (cover0_A_20 m c t h0)
      isplitl [H21]
      · unfold owns; iexists _; isplitr
        swap; · iexact H21
        ipureintro; exact View.read_writes_of_cover _ _ _ _ _ (cover0_A_21 m c t h0)
      isplitl [H22]
      · unfold owns; iexists _; isplitr
        swap; · iexact H22
        ipureintro; exact View.read_writes_of_cover _ _ _ _ _ (cover0_A_22 m c t h0)
      isplitl [H23]
      · unfold owns; iexists _; isplitr
        swap; · iexact H23
        ipureintro; exact View.read_writes_of_cover _ _ _ _ _ (cover0_A_23 m c t h0)
      isplitl [H24]
      · unfold owns; iexists _; isplitr
        swap; · iexact H24
        ipureintro; exact View.read_writes_of_cover _ _ _ _ _ (cover0_A_24 m c t h0)
      unfold owns; iexists _; isplitr
      swap; · iexact H25
      ipureintro; exact View.read_writes_of_cover _ _ _ _ _ (cover0_A_25 m c t h0)
    · exfalso; have hN : t.val < 41 := lt_of_lt_of_eq t.isLt (show cfg0.N = 41 from N_0); omega
  · by_cases hz : t.val = 0
    · exfalso; have hN : t.val < 41 := lt_of_lt_of_eq t.isLt (show cfg0.N = 41 from N_0); omega
    · rw [PhiS_castSucc m c t, PhiS_pos m c _ _ hz]
      rw [outsAt0_B m c t h0]
      simp only [before0_21_B m c t h0]
      unfold out0_B_19 out0_B_20 out0_B_21 out0_B_22 out0_B_23 out0_B_24 out0_B_25 sout0_B_0 sout0_B_1 sout0_B_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB m c t h0 _ _ _ _).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, HS0, HS1, HS2, ⟨%fT3, HS3⟩, ⟨%fT4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · unfold owns; iexists _; isplitr
        swap; · iexact H19
        ipureintro; exact View.read_writes_of_cover _ _ _ _ _ (cover0_B_19 m c t h0 _ _ _ _)
      isplitl [H20]
      · unfold owns; iexists _; isplitr
        swap; · iexact H20
        ipureintro; exact View.read_writes_of_cover _ _ _ _ _ (cover0_B_20 m c t h0 _ _ _ _)
      isplitl [H21]
      · unfold owns; iexists _; isplitr
        swap; · iexact H21
        ipureintro; exact View.read_writes_of_cover _ _ _ _ _ (cover0_B_21 m c t h0 _ _ _ _)
      isplitl [H22]
      · unfold owns; iexists _; isplitr
        swap; · iexact H22
        ipureintro; exact View.read_writes_of_cover _ _ _ _ _ (cover0_B_22 m c t h0 _ _ _ _)
      isplitl [H23]
      · unfold owns; iexists _; isplitr
        swap; · iexact H23
        ipureintro; exact View.read_writes_of_cover _ _ _ _ _ (cover0_B_23 m c t h0 _ _ _ _)
      isplitl [H24]
      · unfold owns; iexists _; isplitr
        swap; · iexact H24
        ipureintro; exact View.read_writes_of_cover _ _ _ _ _ (cover0_B_24 m c t h0 _ _ _ _)
      unfold owns; iexists _; isplitr
      swap; · iexact H25
      ipureintro; exact View.read_writes_of_cover _ _ _ _ _ (cover0_B_25 m c t h0 _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 41 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.KernelIdealRun.lean ====
/- The run of the program `KernelIdeal`: every execution terminates with each result at the host operations' term of the
   arrays the kernel region leaves, the arguments unchanged. -/
module

public import proofs.«01_k».proof.Proof.Gen.KernelIdeal
public import proofs.«01_k».proof.Proof.KernelIdealFrame
public import Idealize.ShloMosaic.Lib.StableHlo.Run
public import Idealize.ShloMosaic.Lib.Pipeline.FrameSuffix

@[expose] public section

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v24_0` (window 19's): not opened here. -/
def reg_main_v24_0 (c : Dev nD) : Buf (Elt F) ((c.tc : Thread nD τ).loc main_v24_0) := (Gen.dats m 0 c).arrAt 19 cfg0.N
/-- What the kernel region leaves in its result array `main_v24_1` (window 20's): not opened here. -/
def reg_main_v24_1 (c : Dev nD) : Buf (Elt F) ((c.tc : Thread nD τ).loc main_v24_1) := (Gen.dats m 0 c).arrAt 20 cfg0.N
/-- What the kernel region leaves in its result array `main_v24_2` (window 21's): not opened here. -/
def reg_main_v24_2 (c : Dev nD) : Buf (Elt F) ((c.tc : Thread nD τ).loc main_v24_2) := (Gen.dats m 0 c).arrAt 21 cfg0.N
/-- What the kernel region leaves in its result array `main_v24_3` (window 22's): not opened here. -/
def reg_main_v24_3 (c : Dev nD) : Buf (Elt F) ((c.tc : Thread nD τ).loc main_v24_3) := (Gen.dats m 0 c).arrAt 22 cfg0.N
/-- What the kernel region leaves in its result array `main_v24_4` (window 23's): not opened here. -/
def reg_main_v24_4 (c : Dev nD) : Buf (Elt F) ((c.tc : Thread nD τ).loc main_v24_4) := (Gen.dats m 0 c).arrAt 23 cfg0.N
/-- What the kernel region leaves in its result array `main_v24_5` (window 24's): not opened here. -/
def reg_main_v24_5 (c : Dev nD) : Buf (Elt F) ((c.tc : Thread nD τ).loc main_v24_5) := (Gen.dats m 0 c).arrAt 24 cfg0.N
/-- What the kernel region leaves in its result array `main_v24_6` (window 25's): not opened here. -/
def reg_main_v24_6 (c : Dev nD) : Buf (Elt F) ((c.tc : Thread nD τ).loc main_v24_6) := (Gen.dats m 0 c).arrAt 25 cfg0.N

/-- The exit contents at the region's result array `main_v24_0`. -/
theorem exit_main_v24_0 (c : Dev nD) : exitV m c (Proc.devRef .tc main_v24_0) = reg_main_v24_0 m c :=
  Pipeline.withArrays_arr spec0 Gen.launch0.win.arr_inj c (Gen.V0 m c) _ 19
/-- The exit contents at the region's result array `main_v24_1`. -/
theorem exit_main_v24_1 (c : Dev nD) : exitV m c (Proc.devRef .tc main_v24_1) = reg_main_v24_1 m c :=
  Pipeline.withArrays_arr spec0 Gen.launch0.win.arr_inj c (Gen.V0 m c) _ 20
/-- The exit contents at the region's result array `main_v24_2`. -/
theorem exit_main_v24_2 (c : Dev nD) : exitV m c (Proc.devRef .tc main_v24_2) = reg_main_v24_2 m c :=
  Pipeline.withArrays_arr spec0 Gen.launch0.win.arr_inj c (Gen.V0 m c) _ 21
/-- The exit contents at the region's result array `main_v24_3`. -/
theorem exit_main_v24_3 (c : Dev nD) : exitV m c (Proc.devRef .tc main_v24_3) = reg_main_v24_3 m c :=
  Pipeline.withArrays_arr spec0 Gen.launch0.win.arr_inj c (Gen.V0 m c) _ 22
/-- The exit contents at the region's result array `main_v24_4`. -/
theorem exit_main_v24_4 (c : Dev nD) : exitV m c (Proc.devRef .tc main_v24_4) = reg_main_v24_4 m c :=
  Pipeline.withArrays_arr spec0 Gen.launch0.win.arr_inj c (Gen.V0 m c) _ 23
/-- The exit contents at the region's result array `main_v24_5`. -/
theorem exit_main_v24_5 (c : Dev nD) : exitV m c (Proc.devRef .tc main_v24_5) = reg_main_v24_5 m c :=
  Pipeline.withArrays_arr spec0 Gen.launch0.win.arr_inj c (Gen.V0 m c) _ 24
/-- The exit contents at the region's result array `main_v24_6`. -/
theorem exit_main_v24_6 (c : Dev nD) : exitV m c (Proc.devRef .tc main_v24_6) = reg_main_v24_6 m c :=
  Pipeline.withArrays_arr spec0 Gen.launch0.win.arr_inj c (Gen.V0 m c) _ 25

set_option maxHeartbeats 1000000 in
/-- The later operations from any contents `V0`, read at result `main_v25`. -/
theorem tail_main_v25 (V0 : Valuation τ sig (Elt F)) :
    after (List.flatten [Gen.hostOps1]) V0 (Proc.devRef .tc main_v25) = extractStridedSlice S10415x1024 ![0, 0] (V0 (Proc.devRef .tc main_v24_0)) slices_S10496x1024_S10415x1024_0_0 := by
  simp only [Gen.hostOps1, List.flatten_cons, List.flatten_nil, List.append_nil, List.cons_append, List.nil_append]
  after_results <;> rfl
/-- Result `main_v25` after the later operations from the region's exit contents. -/
theorem fin_main_v25 (c : Dev nD) :
    Pipeline.afterTail₀ cfgs (Gen.dats m) 0 (Gen.V0 m) [Gen.hostOps1] c main_v25 = extractStridedSlice S10415x1024 ![0, 0] (reg_main_v24_0 m c) slices_S10496x1024_S10415x1024_0_0 :=
  (tail_main_v25 (exitV m c)).trans (by rw [exit_main_v24_0])

set_option maxHeartbeats 1000000 in
/-- The later operations from any contents `V0`, read at result `main_v26`. -/
theorem tail_main_v26 (V0 : Valuation τ sig (Elt F)) :
    after (List.flatten [Gen.hostOps1]) V0 (Proc.devRef .tc main_v26) = extractStridedSlice S10415x1024 ![0, 0] (V0 (Proc.devRef .tc main_v24_1)) slices_S10496x1024_S10415x1024_0_0 := by
  simp only [Gen.hostOps1, List.flatten_cons, List.flatten_nil, List.append_nil, List.cons_append, List.nil_append]
  after_results <;> rfl
/-- Result `main_v26` after the later operations from the region's exit contents. -/
theorem fin_main_v26 (c : Dev nD) :
    Pipeline.afterTail₀ cfgs (Gen.dats m) 0 (Gen.V0 m) [Gen.hostOps1] c main_v26 = extractStridedSlice S10415x1024 ![0, 0] (reg_main_v24_1 m c) slices_S10496x1024_S10415x1024_0_0 :=
  (tail_main_v26 (exitV m c)).trans (by rw [exit_main_v24_1])

set_option maxHeartbeats 1000000 in
/-- The later operations from any contents `V0`, read at result `main_v28`. -/
theorem tail_main_v28 (V0 : Valuation τ sig (Elt F)) :
    after (List.flatten [Gen.hostOps1]) V0 (Proc.devRef .tc main_v28) = shapeCast _ (extractStridedSlice S1x48 ![0, 0] (V0 (Proc.devRef .tc main_v24_2)) slices_S1x128_S1x48_0_0) shapeCasts_S1x48_S48 := by
  simp only [Gen.hostOps1, List.flatten_cons, List.flatten_nil, List.append_nil, List.cons_append, List.nil_append]
  after_results <;> rfl
/-- Result `main_v28` after the later operations from the region's exit contents. -/
theorem fin_main_v28 (c : Dev nD) :
    Pipeline.afterTail₀ cfgs (Gen.dats m) 0 (Gen.V0 m) [Gen.hostOps1] c main_v28 = shapeCast _ (extractStridedSlice S1x48 ![0, 0] (reg_main_v24_2 m c) slices_S1x128_S1x48_0_0) shapeCasts_S1x48_S48 :=
  (tail_main_v28 (exitV m c)).trans (by rw [exit_main_v24_2])

set_option maxHeartbeats 1000000 in
/-- The later operations from any contents `V0`, read at result `main_v29`. -/
theorem tail_main_v29 (V0 : Valuation τ sig (Elt F)) :
    after (List.flatten [Gen.hostOps1]) V0 (Proc.devRef .tc main_v29) = extractStridedSlice S10415x1024 ![0, 0] (V0 (Proc.devRef .tc main_v24_3)) slices_S10496x1024_S10415x1024_0_0 := by
  simp only [Gen.hostOps1, List.flatten_cons, List.flatten_nil, List.append_nil, List.cons_append, List.nil_append]
  after_results <;> rfl
/-- Result `main_v29` after the later operations from the region's exit contents. -/
theorem fin_main_v29 (c : Dev nD) :
    Pipeline.afterTail₀ cfgs (Gen.dats m) 0 (Gen.V0 m) [Gen.hostOps1] c main_v29 = extractStridedSlice S10415x1024 ![0, 0] (reg_main_v24_3 m c) slices_S10496x1024_S10415x1024_0_0 :=
  (tail_main_v29 (exitV m c)).trans (by rw [exit_main_v24_3])

set_option maxHeartbeats 1000000 in
/-- The later operations from any contents `V0`, read at result `main_v31`. -/
theorem tail_main_v31 (V0 : Valuation τ sig (Elt F)) :
    after (List.flatten [Gen.hostOps1]) V0 (Proc.devRef .tc main_v31) = shapeCast _ (extractStridedSlice S1x10415 ![0, 0] (V0 (Proc.devRef .tc main_v24_4)) slices_S1x10496_S1x10415_0_0) shapeCasts_S1x10415_S10415 := by
  simp only [Gen.hostOps1, List.flatten_cons, List.flatten_nil, List.append_nil, List.cons_append, List.nil_append]
  after_results <;> rfl
/-- Result `main_v31` after the later operations from the region's exit contents. -/
theorem fin_main_v31 (c : Dev nD) :
    Pipeline.afterTail₀ cfgs (Gen.dats m) 0 (Gen.V0 m) [Gen.hostOps1] c main_v31 = shapeCast _ (extractStridedSlice S1x10415 ![0, 0] (reg_main_v24_4 m c) slices_S1x10496_S1x10415_0_0) shapeCasts_S1x10415_S10415 :=
  (tail_main_v31 (exitV m c)).trans (by rw [exit_main_v24_4])

set_option maxHeartbeats 1000000 in
/-- The later operations from any contents `V0`, read at result `main_v32`. -/
theorem tail_main_v32 (V0 : Valuation τ sig (Elt F)) :
    after (List.flatten [Gen.hostOps1]) V0 (Proc.devRef .tc main_v32) = extractStridedSlice S10415x4096 ![0, 0] (V0 (Proc.devRef .tc main_v24_5)) slices_S10496x4096_S10415x4096_0_0 := by
  simp only [Gen.hostOps1, List.flatten_cons, List.flatten_nil, List.append_nil, List.cons_append, List.nil_append]
  after_results <;> rfl
/-- Result `main_v32` after the later operations from the region's exit contents. -/
theorem fin_main_v32 (c : Dev nD) :
    Pipeline.afterTail₀ cfgs (Gen.dats m) 0 (Gen.V0 m) [Gen.hostOps1] c main_v32 = extractStridedSlice S10415x4096 ![0, 0] (reg_main_v24_5 m c) slices_S10496x4096_S10415x4096_0_0 :=
  (tail_main_v32 (exitV m c)).trans (by rw [exit_main_v24_5])

set_option maxHeartbeats 1000000 in
/-- The later operations from any contents `V0`, read at result `main_v34`. -/
theorem tail_main_v34 (V0 : Valuation τ sig (Elt F)) :
    after (List.flatten [Gen.hostOps1]) V0 (Proc.devRef .tc main_v34) = shapeCast _ (extractStridedSlice S1x10415 ![0, 0] (V0 (Proc.devRef .tc main_v24_6)) slices_S1x10496_S1x10415_0_0) shapeCasts_S1x10415_S10415 := by
  simp only [Gen.hostOps1, List.flatten_cons, List.flatten_nil, List.append_nil, List.cons_append, List.nil_append]
  after_results <;> rfl
/-- Result `main_v34` after the later operations from the region's exit contents. -/
theorem fin_main_v34 (c : Dev nD) :
    Pipeline.afterTail₀ cfgs (Gen.dats m) 0 (Gen.V0 m) [Gen.hostOps1] c main_v34 = shapeCast _ (extractStridedSlice S1x10415 ![0, 0] (reg_main_v24_6 m c) slices_S1x10496_S1x10415_0_0) shapeCasts_S1x10415_S10415 :=
  (tail_main_v34 (exitV m c)).trans (by rw [exit_main_v24_6])

set_option maxHeartbeats 1560000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v25) = extractStridedSlice S10415x1024 ![0, 0] (reg_main_v24_0 m c) slices_S10496x1024_S10415x1024_0_0
      ∧ r.2.mem ((c.tc : Thread nD τ).loc main_v26) = extractStridedSlice S10415x1024 ![0, 0] (reg_main_v24_1 m c) slices_S10496x1024_S10415x1024_0_0
      ∧ r.2.mem ((c.tc : Thread nD τ).loc main_v28) = shapeCast _ (extractStridedSlice S1x48 ![0, 0] (reg_main_v24_2 m c) slices_S1x128_S1x48_0_0) shapeCasts_S1x48_S48
      ∧ r.2.mem ((c.tc : Thread nD τ).loc main_v29) = extractStridedSlice S10415x1024 ![0, 0] (reg_main_v24_3 m c) slices_S10496x1024_S10415x1024_0_0
      ∧ r.2.mem ((c.tc : Thread nD τ).loc main_v31) = shapeCast _ (extractStridedSlice S1x10415 ![0, 0] (reg_main_v24_4 m c) slices_S1x10496_S1x10415_0_0) shapeCasts_S1x10415_S10415
      ∧ r.2.mem ((c.tc : Thread nD τ).loc main_v32) = extractStridedSlice S10415x4096 ![0, 0] (reg_main_v24_5 m c) slices_S10496x4096_S10415x4096_0_0
      ∧ r.2.mem ((c.tc : Thread nD τ).loc main_v34) = shapeCast _ (extractStridedSlice S1x10415 ![0, 0] (reg_main_v24_6 m c) slices_S1x10496_S1x10415_0_0) shapeCasts_S1x10415_S10415
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨((h c).2 main_v25 (Pipeline.mem_restRefs_of main_v25 (by decide) (by decide))).trans (fin_main_v25 m c),
      ((h c).2 main_v26 (Pipeline.mem_restRefs_of main_v26 (by decide) (by decide))).trans (fin_main_v26 m c),
      ((h c).2 main_v28 (Pipeline.mem_restRefs_of main_v28 (by decide) (by decide))).trans (fin_main_v28 m c),
      ((h c).2 main_v29 (Pipeline.mem_restRefs_of main_v29 (by decide) (by decide))).trans (fin_main_v29 m c),
      ((h c).2 main_v31 (Pipeline.mem_restRefs_of main_v31 (by decide) (by decide))).trans (fin_main_v31 m c),
      ((h c).2 main_v32 (Pipeline.mem_restRefs_of main_v32 (by decide) (by decide))).trans (fin_main_v32 m c),
      ((h c).2 main_v34 (Pipeline.mem_restRefs_of main_v34 (by decide) (by decide))).trans (fin_main_v34 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).1 4).trans (((Gen.dats m 0 c).arrAt_in 4 rfl _).trans ((Gen.A_eq m c 4).trans (Gen.V_main_arg4 m c))),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).1 10).trans (((Gen.dats m 0 c).arrAt_in 10 rfl _).trans ((Gen.A_eq m c 10).trans (Gen.V_main_arg10 m c))),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c),
      ((h c).1 13).trans (((Gen.dats m 0 c).arrAt_in 13 rfl _).trans ((Gen.A_eq m c 13).trans (Gen.V_main_arg13 m c))),
      ((h c).2 main_arg14 (Pipeline.mem_restRefs_of main_arg14 (by decide) (by decide))).trans (Gen.W_main_arg14 m (Gen.dats m) c),
      ((h c).2 main_arg15 (Pipeline.mem_restRefs_of main_arg15 (by decide) (by decide))).trans (Gen.W_main_arg15 m (Gen.dats m) c),
      ((h c).2 main_arg16 (Pipeline.mem_restRefs_of main_arg16 (by decide) (by decide))).trans (Gen.W_main_arg16 m (Gen.dats m) c),
      ((h c).2 main_arg17 (Pipeline.mem_restRefs_of main_arg17 (by decide) (by decide))).trans (Gen.W_main_arg17 m (Gen.dats m) c),
      ((h c).2 main_arg18 (Pipeline.mem_restRefs_of main_arg18 (by decide) (by decide))).trans (Gen.W_main_arg18 m (Gen.dats m) c)⟩) (Gen.run_main m ρ)

end Cert.KernelIdeal.Value

end
-- ==== Proof.Row.lean ====
/-
  What one token's row becomes, over the extended reals: the output projection with its residual and layer norm, the int8
  quantisation, the two-layer feed-forward network, the second layer norm and the pair score. Both programs are read against
  these functions. No program is mentioned here.
-/
module

public import Idealize.ShloMosaic.PureOps.Ideal
public import Idealize.ShloMosaic.Lib.Pointwise
public import Idealize.ShloMosaic.Lib.IdealHost

@[expose] public section

noncomputable section

namespace Cert.Ffn

open Idealize.ShloMosaic

/-! ## The constants -/

/-- The row length as the programs write it. -/
abbrev cLen : EReal := Ideal.ofBits .f32 0x44800000#32
/-- The layer norm's epsilon. -/
abbrev cEps : EReal := Ideal.ofBits .f32 0x2B8CBCCC#32
/-- The greatest int8 code. -/
abbrev cMax : EReal := Ideal.ofBits .f32 0x42FE0000#32
/-- The least int8 code. -/
abbrev cMin : EReal := Ideal.ofBits .f32 0xC2FE0000#32
/-- Minus infinity, from which a maximum starts. -/
abbrev cBot : EReal := Ideal.ofBits .f32 0xFF800000#32
/-- One half. -/
abbrev cHalf : EReal := Ideal.ofBits .f32 0x3F000000#32
/-- The square root of two, rounded to f32. -/
abbrev cSqrt2 : EReal := Ideal.ofBits .f32 0x3FB504F3#32

theorem cMax_eq : cMax = ((127 : ℝ) : EReal) := by
  simp [cMax, Ideal.ofBits, Ideal.ieee, -EReal.coe_mul]; norm_num

theorem cMin_eq : cMin = ((-127 : ℝ) : EReal) := by
  simp [cMin, Ideal.ofBits, Ideal.ieee, -EReal.coe_mul, -EReal.coe_neg]; norm_num

theorem cBot_eq : cBot = ⊥ := by
  simp [cBot, Ideal.ofBits, Ideal.ieee]

/-! ## One row's functions -/

/-- An int8 word as the number it stands for. -/
def num (b : BitVec 8) : EReal := ((b.toInt : ℝ) : EReal)

/-- An int8 product of a row with a matrix, rescaled, with the bias. -/
def lin {K N : ℕ} (c : Fin K → EReal) (s : EReal) (w : Fin K → Fin N → EReal) (ws b : Fin N → EReal) (j : Fin N) : EReal :=
  (∑ k : Fin K, c k * w k j) * s * ws j + b j

/-- The row's mean. -/
def mean (v : Fin 1024 → EReal) : EReal := Ideal.div (∑ k : Fin 1024, v k) cLen

/-- The row less its mean. -/
def cen (v : Fin 1024 → EReal) (j : Fin 1024) : EReal := v j - mean v

/-- The layer norm from the centred row. -/
def normOf (c g b : Fin 1024 → EReal) (j : Fin 1024) : EReal :=
  c j * Ideal.rsqrt (Ideal.div (∑ k : Fin 1024, c k * c k) cLen + cEps) * g j + b j

/-- The layer norm of a row. -/
def norm (v g b : Fin 1024 → EReal) : Fin 1024 → EReal := normOf (cen v) g b

/-- The exact GELU. -/
def gelu (u : EReal) : EReal := cHalf * u * (1 + Ideal.erf (Ideal.div u cSqrt2))

/-- The greatest magnitude of a row (from below everything). -/
def amax {K : ℕ} (v : Fin K → EReal) : EReal := Finset.univ.fold max cBot fun k => max (v k) (-v k)

/-- The quantiser's scale at a greatest magnitude `a`. -/
def scaleOf (a : EReal) : EReal := if a = 0 then 1 else Ideal.div a cMax

/-- Rounding to the nearest code, clipped. -/
def clip (z : EReal) : EReal := min cMax (max cMin (Ideal.liftRound Ideal.roundHalfEven z))

/-- A value's code at scale `s`. -/
def codeOf (v s : EReal) : EReal := clip (Ideal.div v s)

/-- The weights of the layer. -/
structure Wts where
  wo : Fin 1024 → Fin 1024 → EReal
  wso : Fin 1024 → EReal
  bo : Fin 1024 → EReal
  g1 : Fin 1024 → EReal
  b1 : Fin 1024 → EReal
  su : Fin 1024 → EReal
  wu : Fin 1024 → Fin 4096 → EReal
  wsu : Fin 4096 → EReal
  bu : Fin 4096 → EReal
  wd : Fin 4096 → Fin 1024 → EReal
  wsd : Fin 1024 → EReal
  bd : Fin 1024 → EReal
  g2 : Fin 1024 → EReal
  b2 : Fin 1024 → EReal

/-- One token's inputs: the attention context's codes and scale, and the residual. -/
structure Tok where
  c : Fin 1024 → EReal
  s : EReal
  x : Fin 1024 → EReal

variable (W : Wts) (T : Tok)

/-- The output projection plus the residual. -/
def att (j : Fin 1024) : EReal := lin T.c T.s W.wo W.wso W.bo j + T.x j
/-- The first layer norm. -/
def h1 : Fin 1024 → EReal := norm (att W T) W.g1 W.b1
/-- The smoothed row. -/
def sm (j : Fin 1024) : EReal := Ideal.div (h1 W T j) (W.su j)
/-- The smoothed row's scale. -/
def hs : EReal := scaleOf (amax (sm W T))
/-- The smoothed row's codes. -/
def hc (j : Fin 1024) : EReal := codeOf (sm W T j) (hs W T)
/-- The hidden row. -/
def gg (j : Fin 4096) : EReal := gelu (lin (hc W T) (hs W T) W.wu W.wsu W.bu j)
/-- The hidden row's scale. -/
def gs : EReal := scaleOf (amax (gg W T))
/-- The hidden row's codes. -/
def gc (j : Fin 4096) : EReal := codeOf (gg W T j) (gs W T)
/-- The down projection plus the residual. -/
def dn (j : Fin 1024) : EReal := lin (gc W T) (gs W T) W.wd W.wsd W.bd j + h1 W T j
/-- The layer's result. -/
def yy : Fin 1024 → EReal := norm (dn W T) W.g2 W.b2

/-! ## Codes -/

/-- A clipped rounding is one of the integers from -127 to 127. -/
theorem clip_eq_int (z : EReal) : ∃ n : ℤ, -127 ≤ n ∧ n ≤ 127 ∧ clip z = ((n : ℝ) : EReal) := by
  unfold clip; rw [cMax_eq, cMin_eq]
  induction z using EReal.rec with
  | bot => exact ⟨-127, by norm_num, by norm_num, by
      rw [Ideal.liftRound_bot, max_eq_left bot_le, min_eq_right (by exact_mod_cast (by norm_num : (-127 : ℝ) ≤ 127))]
      norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast; rfl

/-- Converting a code to int8 and back changes nothing. -/
theorem toInt_fptosi_clip (z : EReal) : (((Ideal.fptosi 8 (clip z)).toInt : ℝ) : EReal) = clip z := by
  obtain ⟨n, h1, h2, h⟩ := clip_eq_int z
  rw [h]; unfold Ideal.fptosi
  have e : Ideal.toIntClamped (-((2 ^ (8 - 1) : ℕ) : ℤ)) (((2 ^ (8 - 1) : ℕ) : ℤ) - 1) (((n : ℝ) : EReal)) = n := by
    show max _ (min _ (if (0 : ℝ) ≤ (n : ℝ) then ⌊(n : ℝ)⌋ else ⌈(n : ℝ)⌉)) = n
    rw [Int.floor_intCast, Int.ceil_intCast, ite_self]; norm_num; omega
  rw [e]
  have : (BitVec.ofInt 8 n).toInt = n := by
    rw [BitVec.toInt_ofInt]; exact Int.bmod_eq_of_le (by norm_num; omega) (by norm_num; omega)
  rw [this]

/-! ## Scales -/

theorem inv_cMax_ne : (cMax)⁻¹ ≠ 0 := by
  rw [cMax_eq, ← EReal.coe_inv]; exact_mod_cast (by norm_num : (127 : ℝ)⁻¹ ≠ 0)

theorem cMax_ne : cMax ≠ 0 := by rw [cMax_eq]; exact_mod_cast (by norm_num : (127 : ℝ) ≠ 0)

/-- A scale is never zero. -/
theorem scaleOf_ne (a : EReal) : scaleOf a ≠ 0 := by
  unfold scaleOf
  split
  · exact one_ne_zero
  · rename_i h; unfold Ideal.div; rw [if_neg cMax_ne]; exact mul_ne_zero h inv_cMax_ne

/-- A product with the scale's reciprocal is the quotient. -/
theorem mul_recip_scale (v a : EReal) : v * Ideal.div 1 (scaleOf a) = Ideal.div v (scaleOf a) :=
  Ideal.mul_one_div (scaleOf_ne a)

/-! ## Running maxima -/

theorem amax_le {K : ℕ} (v : Fin K → EReal) (c : EReal) : amax v ≤ c ↔ ∀ k, max (v k) (-v k) ≤ c := by
  unfold amax; rw [cBot_eq, Finset.fold_max_le]; simp

theorem abs_nonneg' (a : EReal) : 0 ≤ max a (-a) := by
  rcases le_total 0 a with h | h
  · exact h.trans (le_max_left _ _)
  · exact (EReal.le_neg_of_le_neg (by simpa using h)).trans (le_max_right _ _)

/-- Eight chunks' running maximum from zero is the whole row's maximum. -/
theorem amax_chunks (v : Fin 4096 → EReal) :
    max (max (max (max (max (max (max (max 0 (amax fun k : Fin 512 => v ⟨k.val, by omega⟩))
      (amax fun k : Fin 512 => v ⟨512 + k.val, by omega⟩)) (amax fun k : Fin 512 => v ⟨1024 + k.val, by omega⟩))
      (amax fun k : Fin 512 => v ⟨1536 + k.val, by omega⟩)) (amax fun k : Fin 512 => v ⟨2048 + k.val, by omega⟩))
      (amax fun k : Fin 512 => v ⟨2560 + k.val, by omega⟩)) (amax fun k : Fin 512 => v ⟨3072 + k.val, by omega⟩))
      (amax fun k : Fin 512 => v ⟨3584 + k.val, by omega⟩) = amax v := by
  refine eq_of_forall_ge_iff fun c => ?_
  simp only [max_le_iff (c := c)]
  rw [amax_le, amax_le, amax_le, amax_le, amax_le, amax_le, amax_le, amax_le, amax_le]
  constructor
  · rintro ⟨⟨⟨⟨⟨⟨⟨⟨-, h0⟩, h1⟩, h2⟩, h3⟩, h4⟩, h5⟩, h6⟩, h7⟩ k
    have hk := k.isLt
    have e : ∀ (o : ℕ) (h₁ : o + (k.val - o) < 4096), o ≤ k.val → (⟨o + (k.val - o), h₁⟩ : Fin 4096) = k :=
      fun o _ ho => Fin.ext (by show o + (k.val - o) = k.val; omega)
    rcases lt_or_ge k.val 512 with l0 | g0
    · exact h0 ⟨k.val, l0⟩
    rcases lt_or_ge k.val 1024 with l1 | g1
    · have := h1 ⟨k.val - 512, by omega⟩; rwa [e 512 _ g0] at this
    rcases lt_or_ge k.val 1536 with l2 | g2
    · have := h2 ⟨k.val - 1024, by omega⟩; rwa [e 1024 _ g1] at this
    rcases lt_or_ge k.val 2048 with l3 | g3
    · have := h3 ⟨k.val - 1536, by omega⟩; rwa [e 1536 _ g2] at this
    rcases lt_or_ge k.val 2560 with l4 | g4
    · have := h4 ⟨k.val - 2048, by omega⟩; rwa [e 2048 _ g3] at this
    rcases lt_or_ge k.val 3072 with l5 | g5
    · have := h5 ⟨k.val - 2560, by omega⟩; rwa [e 2560 _ g4] at this
    rcases lt_or_ge k.val 3584 with l6 | g6
    · have := h6 ⟨k.val - 3072, by omega⟩; rwa [e 3072 _ g5] at this
    have := h7 ⟨k.val - 3584, by omega⟩; rwa [e 3584 _ g6] at this
  · intro h
    exact ⟨⟨⟨⟨⟨⟨⟨⟨(abs_nonneg' _).trans (h 0), fun k => h _⟩, fun k => h _⟩, fun k => h _⟩, fun k => h _⟩,
      fun k => h _⟩, fun k => h _⟩, fun k => h _⟩, fun k => h _⟩

end Cert.Ffn

end
-- ==== Proof.Block.lean ====
/-
  What the kernel's body computes from one block of tokens, row by row: each payload of the body read at an index, as the
  row functions of `Row.lean`.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.Ffn.Block

open Idealize.ShloMosaic Cert.KernelIdeal Cert.KernelIdeal.Gen

/-! ## The converted weights -/

theorem pay1 (v : Vec Ideal S1024x1024 .i8) (k j : Fin 1024) : k0_pay1 v (ix2 k j) = num (v (ix2 k j)) := by
  pointwise [k0_pay1]; rfl

theorem pay2 (v : Vec Ideal S1024x4096 .i8) (k : Fin 1024) (j : Fin 4096) : k0_pay2 v (ix2 k j) = num (v (ix2 k j)) := by
  pointwise [k0_pay2]; rfl

theorem pay3 (v : Vec Ideal S4096x1024 .i8) (k : Fin 4096) (j : Fin 1024) : k0_pay3 v (ix2 k j) = num (v (ix2 k j)) := by
  pointwise [k0_pay3]; rfl

/-! ## The output projection and the first layer norm -/

section Att
variable (v3 : Vec Ideal S1x256 .f32) (v9 : Vec Ideal S256x1024 .i8) (v12 : Vec Ideal S1024x1024 .bf16)
  (v16 v20 : Vec Ideal S1x1024 .f32) (v24 : Vec Ideal S256x1024 .bf16) (r : Fin 256) (j : Fin 1024)

/-- The projected row before the norm. -/
def attRow (k : Fin 1024) : EReal :=
  lin (fun i => num (v9 (ix2 r i))) (v3 (ix2 0 r)) (fun i j => v12 (ix2 i j)) (fun j => v16 (ix2 0 j)) (fun j => v20 (ix2 0 j)) k
    + v24 (ix2 r k)

theorem pay5 : k0_pay5 v3 v9 v12 v16 v20 v24 (ix2 r j) = attRow v3 v9 v12 v16 v20 v24 r j := by
  pointwise [k0_pay5]; rfl

theorem pay8 : k0_pay8 v3 v9 v12 v16 v20 v24 (ix2 r j) = mean (attRow v3 v9 v12 v16 v20 v24 r) := by
  pointwise [k0_pay8]; simp only [pay5]; rfl

end Att

theorem pay6 (v : Vec Ideal S1x1024 .f32) : k0_pay6 v = v := by
  funext i; pointwise [k0_pay6]

theorem pay7 (v : Vec Ideal S1x1024 .f32) : k0_pay7 v = v := by
  funext i; pointwise [k0_pay7]

section Norm
variable (v27 v36 : FVec Ideal S256x1024 .f32) (v29 v31 v54 : FVec Ideal S1x1024 .f32) (r : Fin 256) (j : Fin 1024)

/-- The normed row. -/
def h1Row (k : Fin 1024) : EReal :=
  normOf (fun i => v27 (ix2 r i) - v36 (ix2 r i)) (fun j => v29 (ix2 0 j)) (fun j => v31 (ix2 0 j)) k

theorem pay9 : k0_pay9 v27 v29 v31 v36 (ix2 r j) = h1Row v27 v36 v29 v31 r j := by
  pointwise [k0_pay9]; rfl

theorem pay10 : k0_pay10 v27 v29 v31 v36 (ix2 r j) = h1Row v27 v36 v29 v31 r j := by
  pointwise [k0_pay10]; exact pay9 _ _ _ _ _ _

/-- The smoothed row: the norm over the smoothing vector. -/
def smRow (k : Fin 1024) : EReal := h1Row v27 v36 v29 v31 r k * Ideal.div 1 (v54 (ix2 0 k))

theorem pay11 : k0_pay11 v27 v29 v31 v36 v54 (ix2 r j) = smRow v27 v36 v29 v31 v54 r j := by
  pointwise [k0_pay11]; rw [pay9]; rfl

theorem pay12 : k0_pay12 v27 v29 v31 v36 v54 (ix2 r 0) = scaleOf (amax (smRow v27 v36 v29 v31 v54 r)) := by
  pointwise [k0_pay12]; simp only [pay11]; rfl

theorem pay13 : k0_pay13 v27 v29 v31 v36 v54 (ix2 r j)
    = codeOf (smRow v27 v36 v29 v31 v54 r j) (scaleOf (amax (smRow v27 v36 v29 v31 v54 r))) := by
  pointwise [k0_pay13]; rw [pay11, pay12, mul_recip_scale]; rfl

theorem pay14 : k0_pay14 v27 v29 v31 v36 v54 (ix2 r j)
    = Ideal.fptosi 8 (codeOf (smRow v27 v36 v29 v31 v54 r j) (scaleOf (amax (smRow v27 v36 v29 v31 v54 r)))) := by
  rw [← pay13]; pointwise [k0_pay14]; rfl

theorem pay15 (v68 : FVec Ideal S256x1 .f32) : k0_pay15 v68 (ix2 0 r) = v68 (ix2 r 0) := by
  pointwise [k0_pay15]

end Norm

/-! ## The up projection in chunks of 512 columns, with the GELU -/

section Up
variable (v68 : FVec Ideal S256x1 .f32) (v77 : FVec Ideal S256x1024 .f32) (v85 : FVec Ideal S256x1024 .bf16)
  (v87 : Vec Ideal S1024x512 .bf16) (v91 v95 : Vec Ideal S1x512 .f32) (r : Fin 256) (l : Fin 512)

/-- One chunk of the activated row, from the row's codes `q` and its scale `s`. -/
def upRow (q : Fin 1024 → EReal) (s : EReal) (l : Fin 512) : EReal :=
  gelu (lin q s (fun i l => v87 (ix2 i l)) (fun l => v91 (ix2 0 l)) (fun l => v95 (ix2 0 l)) l)

theorem pay16 (k : Fin 1024) : k0_pay16 v77 (ix2 r k) = v77 (ix2 r k) := by
  pointwise [k0_pay16]

theorem pay18 : k0_pay18 v68 v77 v87 v91 v95 (ix2 r l)
    = upRow v87 v91 v95 (fun k => v77 (ix2 r k)) (v68 (ix2 r 0)) l := by
  pointwise [k0_pay18, k0_pay17, k0_pay16]; rfl

theorem pay19 : k0_pay19 v68 v77 v87 v91 v95 (ix2 r 0)
    = max 0 (amax (upRow v87 v91 v95 (fun k => v77 (ix2 r k)) (v68 (ix2 r 0)))) := by
  pointwise [k0_pay19, k0_pay17, k0_pay16]; rfl

theorem pay23 : k0_pay23 (k0_pay20 v77 v87) (k0_pay21 v68) v91 v95 (ix2 r l)
    = upRow v87 v91 v95 (fun k => v77 (ix2 r k)) (v68 (ix2 r 0)) l := by
  pointwise [k0_pay23, k0_pay22, k0_pay21, k0_pay20, k0_pay16]; rfl

theorem pay24 (v113 : FVec Ideal S256x1 .f32) : k0_pay24 v113 (k0_pay20 v77 v87) (k0_pay21 v68) v91 v95 (ix2 r 0)
    = max (v113 (ix2 r 0)) (amax (upRow v87 v91 v95 (fun k => v77 (ix2 r k)) (v68 (ix2 r 0)))) := by
  pointwise [k0_pay24, k0_pay22, k0_pay21, k0_pay20, k0_pay16]; rfl

theorem pay29 : k0_pay29 (k0_pay26 v68 v85 v87 v91 v95) (k0_pay27 v68 v85 v87 v91 v95) (ix2 r l)
    = upRow v87 v91 v95 (fun k => v85 (ix2 r k)) (v68 (ix2 r 0)) l := by
  pointwise [k0_pay29, k0_pay28, k0_pay27, k0_pay26, k0_pay25]; rfl

theorem pay31 : k0_pay31 v68 v85 v87 v91 v95 (ix2 r l)
    = upRow v87 v91 v95 (fun k => v85 (ix2 r k)) (v68 (ix2 r 0)) l := by
  pointwise [k0_pay31, k0_pay30]; rfl

theorem pay32 (v140 : FVec Ideal S256x1 .f32) (w87 : Vec Ideal S1024x512 .bf16) (w91 w95 : Vec Ideal S1x512 .f32) :
    k0_pay32 v68 v85 v140 (k0_pay26 v68 v85 v87 v91 v95) (k0_pay27 v68 v85 v87 v91 v95) w87 w91 w95 (ix2 r 0)
    = max (max (v140 (ix2 r 0)) (amax (upRow v87 v91 v95 (fun k => v85 (ix2 r k)) (v68 (ix2 r 0)))))
        (amax (upRow w87 w91 w95 (fun k => v85 (ix2 r k)) (v68 (ix2 r 0)))) := by
  pointwise [k0_pay32, k0_pay30, k0_pay28, k0_pay27, k0_pay26, k0_pay25]; rfl

theorem pay34 : k0_pay34 v68 v85 v87 v91 v95 (ix2 r l)
    = upRow v87 v91 v95 (fun k => v85 (ix2 r k)) (v68 (ix2 r 0)) l := by
  pointwise [k0_pay34, k0_pay33]; rfl

theorem pay35 (v194 : FVec Ideal S256x1 .f32) : k0_pay35 v68 v85 v194 v87 v91 v95 (ix2 r 0)
    = max (v194 (ix2 r 0)) (amax (upRow v87 v91 v95 (fun k => v85 (ix2 r k)) (v68 (ix2 r 0)))) := by
  pointwise [k0_pay35, k0_pay33]; rfl

theorem pay39 : k0_pay39 (k0_pay36 v68 v85 v87 v91 v95) (k0_pay37 v68 v85 v87 v91 v95) (ix2 r l)
    = upRow v87 v91 v95 (fun k => v85 (ix2 r k)) (v68 (ix2 r 0)) l := by
  pointwise [k0_pay39, k0_pay38, k0_pay37, k0_pay36]; rfl

theorem pay41 : k0_pay41 v68 v85 v87 v91 v95 (ix2 r l)
    = upRow v87 v91 v95 (fun k => v85 (ix2 r k)) (v68 (ix2 r 0)) l := by
  pointwise [k0_pay41, k0_pay40]; rfl

theorem pay42 (v221 : FVec Ideal S256x1 .f32) (w87 : Vec Ideal S1024x512 .bf16) (w91 w95 : Vec Ideal S1x512 .f32) :
    k0_pay42 v68 v85 v221 (k0_pay36 v68 v85 v87 v91 v95) (k0_pay37 v68 v85 v87 v91 v95) w87 w91 w95 (ix2 r 0)
    = max (max (v221 (ix2 r 0)) (amax (upRow v87 v91 v95 (fun k => v85 (ix2 r k)) (v68 (ix2 r 0)))))
        (amax (upRow w87 w91 w95 (fun k => v85 (ix2 r k)) (v68 (ix2 r 0)))) := by
  pointwise [k0_pay42, k0_pay40, k0_pay38, k0_pay37, k0_pay36]; rfl

theorem pay44 : k0_pay44 v68 v85 v87 v91 v95 (ix2 r l)
    = upRow v87 v91 v95 (fun k => v85 (ix2 r k)) (v68 (ix2 r 0)) l := by
  pointwise [k0_pay44, k0_pay43]; rfl

theorem pay45 (v275 : FVec Ideal S256x1 .f32) : k0_pay45 v68 v85 v275 v87 v91 v95 (ix2 r 0)
    = scaleOf (max (v275 (ix2 r 0)) (amax (upRow v87 v91 v95 (fun k => v85 (ix2 r k)) (v68 (ix2 r 0))))) := by
  pointwise [k0_pay45, k0_pay43]; rfl

theorem pay46 (v275 : FVec Ideal S256x1 .f32) : k0_pay46 v68 v85 v275 v87 v91 v95 (ix2 0 r)
    = scaleOf (max (v275 (ix2 r 0)) (amax (upRow v87 v91 v95 (fun k => v85 (ix2 r k)) (v68 (ix2 r 0))))) := by
  rw [← pay45]; pointwise [k0_pay46]

end Up

/-! ## The codes of the activated row -/

section Code
variable (v308 : FVec Ideal S256x1 .f32) (g : Vec Ideal S256x512 .f32) (r : Fin 256) (l : Fin 512)

/-- A code as the body computes it: the value times the scale's reciprocal, rounded and clipped. -/
def rc (v s : EReal) : EReal := clip (v * Ideal.div 1 s)

theorem rc_eq (v a : EReal) : rc v (scaleOf a) = codeOf v (scaleOf a) := by
  unfold rc codeOf; rw [mul_recip_scale]

theorem pay48 : k0_pay48 v308 k0_pay47 (ix2 r 0) = Ideal.div 1 (v308 (ix2 r 0)) := by
  pointwise [k0_pay48, k0_pay47]

theorem pay50 : k0_pay50 v308 k0_pay47 g (ix2 r l) = Ideal.fptosi 8 (rc (g (ix2 r l)) (v308 (ix2 r 0))) := by
  pointwise [k0_pay50, k0_pay49, k0_pay48, k0_pay47]; rfl
theorem pay51 : k0_pay51 v308 k0_pay47 g (ix2 r l) = rc (g (ix2 r l)) (v308 (ix2 r 0)) := by
  pointwise [k0_pay51, k0_pay49, k0_pay48, k0_pay47]; rfl
theorem pay53 : k0_pay53 v308 k0_pay47 g (ix2 r l) = Ideal.fptosi 8 (rc (g (ix2 r l)) (v308 (ix2 r 0))) := by
  pointwise [k0_pay53, k0_pay52, k0_pay48, k0_pay47]; rfl
theorem pay54 : k0_pay54 v308 k0_pay47 g (ix2 r l) = rc (g (ix2 r l)) (v308 (ix2 r 0)) := by
  pointwise [k0_pay54, k0_pay52, k0_pay48, k0_pay47]; rfl
theorem pay58 : k0_pay58 (k0_pay55 v308 k0_pay47 g) k0_pay56 (ix2 r l) = Ideal.fptosi 8 (rc (g (ix2 r l)) (v308 (ix2 r 0))) := by
  pointwise [k0_pay58, k0_pay57, k0_pay56, k0_pay55, k0_pay48, k0_pay47]; rfl
theorem pay59 : k0_pay59 (k0_pay55 v308 k0_pay47 g) k0_pay56 (ix2 r l) = rc (g (ix2 r l)) (v308 (ix2 r 0)) := by
  pointwise [k0_pay59, k0_pay57, k0_pay56, k0_pay55, k0_pay48, k0_pay47]; rfl
theorem pay61 : k0_pay61 (k0_pay48 v308 k0_pay47) g (ix2 r l) = Ideal.fptosi 8 (rc (g (ix2 r l)) (v308 (ix2 r 0))) := by
  pointwise [k0_pay61, k0_pay60, k0_pay48, k0_pay47]; rfl
theorem pay62 : k0_pay62 (k0_pay48 v308 k0_pay47) g (ix2 r l) = rc (g (ix2 r l)) (v308 (ix2 r 0)) := by
  pointwise [k0_pay62, k0_pay60, k0_pay48, k0_pay47]; rfl
theorem pay64 : k0_pay64 (k0_pay48 v308 k0_pay47) g (ix2 r l) = Ideal.fptosi 8 (rc (g (ix2 r l)) (v308 (ix2 r 0))) := by
  pointwise [k0_pay64, k0_pay63, k0_pay48, k0_pay47]; rfl
theorem pay65 : k0_pay65 (k0_pay48 v308 k0_pay47) g (ix2 r l) = rc (g (ix2 r l)) (v308 (ix2 r 0)) := by
  pointwise [k0_pay65, k0_pay63, k0_pay48, k0_pay47]; rfl
theorem pay67 : k0_pay67 (k0_pay48 v308 k0_pay47) g (ix2 r l) = Ideal.fptosi 8 (rc (g (ix2 r l)) (v308 (ix2 r 0))) := by
  pointwise [k0_pay67, k0_pay66, k0_pay48, k0_pay47]; rfl
theorem pay68 : k0_pay68 (k0_pay48 v308 k0_pay47) g (ix2 r l) = rc (g (ix2 r l)) (v308 (ix2 r 0)) := by
  pointwise [k0_pay68, k0_pay66, k0_pay48, k0_pay47]; rfl
theorem pay70 : k0_pay70 (k0_pay48 v308 k0_pay47) g (ix2 r l) = Ideal.fptosi 8 (rc (g (ix2 r l)) (v308 (ix2 r 0))) := by
  pointwise [k0_pay70, k0_pay69, k0_pay48, k0_pay47]; rfl
theorem pay71 : k0_pay71 (k0_pay48 v308 k0_pay47) g (ix2 r l) = rc (g (ix2 r l)) (v308 (ix2 r 0)) := by
  pointwise [k0_pay71, k0_pay69, k0_pay48, k0_pay47]; rfl
theorem pay75 : k0_pay75 (k0_pay72 (k0_pay48 v308 k0_pay47) g) k0_pay73 (ix2 r l) = Ideal.fptosi 8 (rc (g (ix2 r l)) (v308 (ix2 r 0))) := by
  pointwise [k0_pay75, k0_pay74, k0_pay73, k0_pay72, k0_pay48, k0_pay47]; rfl
theorem pay76 : k0_pay76 (k0_pay72 (k0_pay48 v308 k0_pay47) g) k0_pay73 (ix2 r l) = rc (g (ix2 r l)) (v308 (ix2 r 0)) := by
  pointwise [k0_pay76, k0_pay74, k0_pay73, k0_pay72, k0_pay48, k0_pay47]; rfl

end Code

/-! ## The down projection, the second layer norm and the score -/

section Down
variable (v51 : FVec Ideal S256x1024 .f32) (v308 : FVec Ideal S256x1 .f32) (v428 : Vec Ideal S256x4096 .bf16)
  (v429 : Vec Ideal S4096x1024 .bf16) (v433 v437 : Vec Ideal S1x1024 .f32) (r : Fin 256) (j : Fin 1024)

/-- The row after the down projection and its residual. -/
def dnRow (k : Fin 1024) : EReal :=
  lin (fun i => v428 (ix2 r i)) (v308 (ix2 r 0)) (fun i j => v429 (ix2 i j)) (fun j => v433 (ix2 0 j)) (fun j => v437 (ix2 0 j)) k
    + v51 (ix2 r k)

theorem pay79 : k0_pay79 v51 v308 v428 v429 v433 v437 (ix2 r j) = cen (dnRow v51 v308 v428 v429 v433 v437 r) j := by
  pointwise [k0_pay79]; rfl

theorem pay80 : k0_pay80 v51 v308 v428 v429 v433 v437 (ix2 r 0)
    = Ideal.div (∑ k, cen (dnRow v51 v308 v428 v429 v433 v437 r) k * cen (dnRow v51 v308 v428 v429 v433 v437 r) k) cLen := by
  pointwise [k0_pay80]; simp only [pay79]

theorem pay77 (v : Vec Ideal S1x1024 .f32) : k0_pay77 v = v := by
  funext i; pointwise [k0_pay77]

theorem pay78 (v : Vec Ideal S1x1024 .f32) : k0_pay78 v = v := by
  funext i; pointwise [k0_pay78]

variable (v442 v444 : FVec Ideal S1x1024 .f32)

/-- The block's last rows. -/
def yRow (k : Fin 1024) : EReal :=
  norm (dnRow v51 v308 v428 v429 v433 v437 r) (fun j => v442 (ix2 0 j)) (fun j => v444 (ix2 0 j)) k

theorem pay81 : k0_pay81 v442 v444 (k0_pay79 v51 v308 v428 v429 v433 v437) (k0_pay80 v51 v308 v428 v429 v433 v437)
      (Scalar.ofBits .f32 0x2B8CBCCC#32) (ix2 r j)
    = yRow v51 v308 v428 v429 v433 v437 r v442 v444 j := by
  pointwise [k0_pay81]; rw [pay79, pay80]; rfl

theorem pay82 : k0_pay82 v442 v444 (k0_pay79 v51 v308 v428 v429 v433 v437) (k0_pay80 v51 v308 v428 v429 v433 v437)
      (Scalar.ofBits .f32 0x2B8CBCCC#32) (ix2 r j)
    = yRow v51 v308 v428 v429 v433 v437 r v442 v444 j := by
  rw [← pay81]; pointwise [k0_pay82]

/-- The score a row gives, before any selection. -/
def scRow (y w : Fin 1024 → EReal) : EReal := ∑ k, y k * w k

/-- A block's contribution to score lane `p`: the rows whose token number is the lane's start. -/
def laneAdd (a : BitVec 32) (sc : Fin 256 → EReal) (st : BitVec 32) : EReal :=
  ∑ r : Fin 256, Scalar.select (IntOp.cmpi .eq (IntOp.addi (Scalar.muli a 256#32) (BitVec.ofNat 32 r.val)) st) (sc r) 0

theorem pay83 (a : BitVec 32) (v468 : Vec Ideal S1x1024 .f32) (v478 : Vec Ideal S1x128 .f32) (v480 : Vec Ideal S1x128 .i32) (p : Fin 128) :
    k0_pay83 a v442 v444 (k0_pay79 v51 v308 v428 v429 v433 v437) (k0_pay80 v51 v308 v428 v429 v433 v437)
      (Scalar.ofBits .f32 0x2B8CBCCC#32) v468 v478 v480 (ix2 0 p)
    = v478 (ix2 0 p) + laneAdd a (fun r => scRow (yRow v51 v308 v428 v429 v433 v437 r v442 v444) (fun k => v468 (ix2 0 k))) (v480 (ix2 0 p)) := by
  have e := fun r j => pay81 v51 v308 v428 v429 v433 v437 r j v442 v444
  generalize Scalar.ofBits (F := Ideal) .f32 0x2B8CBCCC#32 = cst at e ⊢
  pointwise [k0_pay83]; simp only [e]; rfl

theorem pay4 (p : Fin 128) : (k0_pay4 (F := Ideal)) (ix2 0 p) = 0 := by
  pointwise [k0_pay4]

end Down

end Cert.Ffn.Block

end
-- ==== Proof.Tower.lean ====
/-
  What the kernel's body computes from the inputs of one block of tokens, put together: the payloads as functions of the
  block's inputs, and each of them read as the row functions of `Row.lean`.
-/
module

public import proofs.«01_k».proof.Proof.Block
public import Idealize.ShloMosaic.Lib.Pipeline.ValueKit
public import Idealize.ShloMosaic.Lib.Pipeline.ReadBack
public import Idealize.ShloMosaic.Lib.Ring

@[expose] public section

set_option maxRecDepth 16384

noncomputable section

namespace Cert.Ffn.Tower

open Idealize.ShloMosaic Idealize.ShloMosaic.Tactic Cert.KernelIdeal Cert.KernelIdeal.Gen Cert.Ffn.Block

/-- The inputs of one block: its tokens, the weights (the matrices already converted) and the norms' vectors. -/
structure In where
  s : Vec Ideal S1x256 .f32
  c : Vec Ideal S256x1024 .i8
  x : Vec Ideal S256x1024 .bf16
  wo : Vec Ideal S1024x1024 .bf16
  wso : Vec Ideal S1x1024 .f32
  bo : Vec Ideal S1x1024 .f32
  g1 : Vec Ideal S1x1024 .f32
  b1 : Vec Ideal S1x1024 .f32
  su : Vec Ideal S1x1024 .f32
  wu : Vec Ideal S1024x4096 .bf16
  wsu : Vec Ideal S1x4096 .f32
  bu : Vec Ideal S1x4096 .f32
  wd : Vec Ideal S4096x1024 .bf16
  wsd : Vec Ideal S1x1024 .f32
  bd : Vec Ideal S1x1024 .f32
  g2 : Vec Ideal S1x1024 .f32
  b2 : Vec Ideal S1x1024 .f32

/-- The inputs of one block as the body loads them: as `In`, but the up weights, their scales and the up bias by chunks of
    512 columns from a column `o` on. -/
structure Raw where
  s : Vec Ideal S1x256 .f32
  c : Vec Ideal S256x1024 .i8
  x : Vec Ideal S256x1024 .bf16
  wo : Vec Ideal S1024x1024 .bf16
  wso : Vec Ideal S1x1024 .f32
  bo : Vec Ideal S1x1024 .f32
  g1 : Vec Ideal S1x1024 .f32
  b1 : Vec Ideal S1x1024 .f32
  su : Vec Ideal S1x1024 .f32
  wu : (o : ℕ) → o + 512 ≤ 4096 → Vec Ideal S1024x512 .bf16
  wsu : (o : ℕ) → o + 512 ≤ 4096 → Vec Ideal S1x512 .f32
  bu : (o : ℕ) → o + 512 ≤ 4096 → Vec Ideal S1x512 .f32
  wd : Vec Ideal S4096x1024 .bf16
  wsd : Vec Ideal S1x1024 .f32
  bd : Vec Ideal S1x1024 .f32
  g2 : Vec Ideal S1x1024 .f32
  b2 : Vec Ideal S1x1024 .f32

/-- Columns `o` to `o + 511` of the up weights. -/
def cw (v : Vec Ideal S1024x4096 .bf16) (o : ℕ) (ho : o + 512 ≤ 4096) : Vec Ideal S1024x512 .bf16 :=
  fun i => v (ix2 (i 0) ⟨o + (i 1).val, Nat.lt_of_lt_of_le (Nat.add_lt_add_left (i 1).isLt o) ho⟩)

/-- Columns `o` to `o + 511` of a row of 4096. -/
def cr (v : Vec Ideal S1x4096 .f32) (o : ℕ) (ho : o + 512 ≤ 4096) : Vec Ideal S1x512 .f32 :=
  fun i => v (ix2 (i 0) ⟨o + (i 1).val, Nat.lt_of_lt_of_le (Nat.add_lt_add_left (i 1).isLt o) ho⟩)

/-- The block's inputs, chunk by chunk. -/
abbrev In.raw (X : In) : Raw where
  s := X.s
  c := X.c
  x := X.x
  wo := X.wo
  wso := X.wso
  bo := X.bo
  g1 := X.g1
  b1 := X.b1
  su := X.su
  wu := cw X.wu
  wsu := cr X.wsu
  bu := cr X.bu
  wd := X.wd
  wsd := X.wsd
  bd := X.bd
  g2 := X.g2
  b2 := X.b2

variable (R : Raw) (X : In)

/-- The block's weights as matrices of numbers. -/
def wts : Wts where
  wo k j := X.wo (ix2 k j)
  wso j := X.wso (ix2 0 j)
  bo j := X.bo (ix2 0 j)
  g1 j := X.g1 (ix2 0 j)
  b1 j := X.b1 (ix2 0 j)
  su j := X.su (ix2 0 j)
  wu k j := X.wu (ix2 k j)
  wsu j := X.wsu (ix2 0 j)
  bu j := X.bu (ix2 0 j)
  wd k j := X.wd (ix2 k j)
  wsd j := X.wsd (ix2 0 j)
  bd j := X.bd (ix2 0 j)
  g2 j := X.g2 (ix2 0 j)
  b2 j := X.b2 (ix2 0 j)

/-- The block's token of row `r`. -/
def tok (r : Fin 256) : Tok where
  c k := num (X.c (ix2 r k))
  s := X.s (ix2 0 r)
  x k := X.x (ix2 r k)

/-! ## The first half: projection, norm, codes -/

def a5 (R : Raw) := k0_pay5 R.s R.c R.wo R.wso R.bo R.x
def a8 (R : Raw) := k0_pay8 R.s R.c R.wo R.wso R.bo R.x
def v51 (R : Raw) := k0_pay9 (a5 R) (k0_pay6 R.g1) (k0_pay7 R.b1) (a8 R)
def v10 (R : Raw) := k0_pay10 (a5 R) (k0_pay6 R.g1) (k0_pay7 R.b1) (a8 R)
def v68 (R : Raw) := k0_pay12 (a5 R) (k0_pay6 R.g1) (k0_pay7 R.b1) (a8 R) R.su
def v77 (R : Raw) := k0_pay13 (a5 R) (k0_pay6 R.g1) (k0_pay7 R.b1) (a8 R) R.su
def v14 (R : Raw) := k0_pay14 (a5 R) (k0_pay6 R.g1) (k0_pay7 R.b1) (a8 R) R.su
def v85 (R : Raw) := k0_pay16 (v77 R)

section
variable (r : Fin 256) (j : Fin 1024)

theorem h1Row_eq : h1Row (a5 X.raw) (a8 X.raw) (k0_pay6 X.g1) (k0_pay7 X.b1) r = h1 (wts X) (tok X r) := by
  funext k
  unfold h1Row a5 a8
  simp only [pay5, pay8, pay6, pay7]
  rfl

theorem v51_eq : v51 X.raw (ix2 r j) = h1 (wts X) (tok X r) j := by
  unfold v51; rw [pay9, h1Row_eq]

theorem v10_eq : v10 X.raw (ix2 r j) = h1 (wts X) (tok X r) j := by
  unfold v10; rw [pay10, h1Row_eq]

variable (hsu : ∀ j : Fin 1024, X.su (ix2 0 j) ≠ 0)
include hsu

theorem smRow_eq : smRow (a5 X.raw) (a8 X.raw) (k0_pay6 X.g1) (k0_pay7 X.b1) X.su r = sm (wts X) (tok X r) := by
  funext k
  unfold smRow
  rw [h1Row_eq, Ideal.mul_one_div (hsu k)]; rfl

theorem v68_eq : v68 X.raw (ix2 r 0) = hs (wts X) (tok X r) := by
  unfold v68; rw [pay12, smRow_eq X r hsu]; rfl

theorem v15_eq : k0_pay15 (v68 X.raw) (ix2 0 r) = hs (wts X) (tok X r) := by
  rw [pay15, v68_eq X r hsu]

theorem v77_eq : v77 X.raw (ix2 r j) = hc (wts X) (tok X r) j := by
  unfold v77; rw [pay13, smRow_eq X r hsu]; rfl

theorem v14_eq : v14 X.raw (ix2 r j) = Ideal.fptosi 8 (hc (wts X) (tok X r) j) := by
  unfold v14; rw [pay14, smRow_eq X r hsu]; rfl

theorem v85_eq : v85 X.raw (ix2 r j) = hc (wts X) (tok X r) j := by
  unfold v85; rw [pay16, v77_eq X r j hsu]

end

/-! ## The hidden row in chunks of 512 columns -/

theorem ld_cw (v : Vec Ideal S1024x4096 .bf16) (o : ℕ) (ho : o + 512 ≤ 4096) (inb) :
    View.ld v (Rect.unit (s := S1024x4096) ![0, o] S1024x512.size inb) = cw v o ho := by
  funext i
  refine congrArg v (funext fun a => Fin.ext ?_)
  match a with
  | 0 => show 0 + 1 * (i 0).val = (i 0).val; omega
  | 1 => show o + 1 * (i 1).val = o + (i 1).val; omega

theorem ld_cr (v : Vec Ideal S1x4096 .f32) (o : ℕ) (ho : o + 512 ≤ 4096) (inb) :
    View.ld v (Rect.unit (s := S1x4096) ![0, o] S1x512.size inb) = cr v o ho := by
  funext i
  refine congrArg v (funext fun a => Fin.ext ?_)
  match a with
  | 0 => show 0 + 1 * (i 0).val = (i 0).val; omega
  | 1 => show o + 1 * (i 1).val = o + (i 1).val; omega

def m0 (R : Raw) := k0_pay19 (v68 R) (v77 R) (R.wu 0 (by decide)) (R.wsu 0 (by decide)) (R.bu 0 (by decide))
def c0 (R : Raw) := k0_pay18 (v68 R) (v77 R) (R.wu 0 (by decide)) (R.wsu 0 (by decide)) (R.bu 0 (by decide))
def c1 (R : Raw) := k0_pay23 (k0_pay20 (v77 R) (R.wu 512 (by decide))) (k0_pay21 (v68 R)) (R.wsu 512 (by decide)) (R.bu 512 (by decide))
def m1 (R : Raw) := k0_pay24 (m0 R) (k0_pay20 (v77 R) (R.wu 512 (by decide))) (k0_pay21 (v68 R)) (R.wsu 512 (by decide)) (R.bu 512 (by decide))
def p26 (R : Raw) := k0_pay26 (v68 R) (v85 R) (R.wu 1024 (by decide)) (R.wsu 1024 (by decide)) (R.bu 1024 (by decide))
def p27 (R : Raw) := k0_pay27 (v68 R) (v85 R) (R.wu 1024 (by decide)) (R.wsu 1024 (by decide)) (R.bu 1024 (by decide))
def c2 (R : Raw) := k0_pay29 (p26 R) (p27 R)
def c3 (R : Raw) := k0_pay31 (v68 R) (v85 R) (R.wu 1536 (by decide)) (R.wsu 1536 (by decide)) (R.bu 1536 (by decide))
def m3 (R : Raw) := k0_pay32 (v68 R) (v85 R) (m1 R) (p26 R) (p27 R) (R.wu 1536 (by decide)) (R.wsu 1536 (by decide)) (R.bu 1536 (by decide))
def c4 (R : Raw) := k0_pay34 (v68 R) (v85 R) (R.wu 2048 (by decide)) (R.wsu 2048 (by decide)) (R.bu 2048 (by decide))
def m4 (R : Raw) := k0_pay35 (v68 R) (v85 R) (m3 R) (R.wu 2048 (by decide)) (R.wsu 2048 (by decide)) (R.bu 2048 (by decide))
def p36 (R : Raw) := k0_pay36 (v68 R) (v85 R) (R.wu 2560 (by decide)) (R.wsu 2560 (by decide)) (R.bu 2560 (by decide))
def p37 (R : Raw) := k0_pay37 (v68 R) (v85 R) (R.wu 2560 (by decide)) (R.wsu 2560 (by decide)) (R.bu 2560 (by decide))
def c5 (R : Raw) := k0_pay39 (p36 R) (p37 R)
def c6 (R : Raw) := k0_pay41 (v68 R) (v85 R) (R.wu 3072 (by decide)) (R.wsu 3072 (by decide)) (R.bu 3072 (by decide))
def m6 (R : Raw) := k0_pay42 (v68 R) (v85 R) (m4 R) (p36 R) (p37 R) (R.wu 3072 (by decide)) (R.wsu 3072 (by decide)) (R.bu 3072 (by decide))
def c7 (R : Raw) := k0_pay44 (v68 R) (v85 R) (R.wu 3584 (by decide)) (R.wsu 3584 (by decide)) (R.bu 3584 (by decide))
def v308 (R : Raw) := k0_pay45 (v68 R) (v85 R) (m6 R) (R.wu 3584 (by decide)) (R.wsu 3584 (by decide)) (R.bu 3584 (by decide))
def v46 (R : Raw) := k0_pay46 (v68 R) (v85 R) (m6 R) (R.wu 3584 (by decide)) (R.wsu 3584 (by decide)) (R.bu 3584 (by decide))

section
variable (r : Fin 256) (l : Fin 512) (hsu : ∀ j : Fin 1024, X.su (ix2 0 j) ≠ 0)
include hsu

theorem up77 (o : ℕ) (ho : o + 512 ≤ 4096) (l : Fin 512) :
    upRow (cw X.wu o ho) (cr X.wsu o ho) (cr X.bu o ho) (fun k => v77 X.raw (ix2 r k)) (v68 X.raw (ix2 r 0)) l
      = gg (wts X) (tok X r) ⟨o + l.val, by omega⟩ := by
  simp only [v77_eq X r _ hsu, v68_eq X r hsu]; rfl

theorem up85 (o : ℕ) (ho : o + 512 ≤ 4096) (l : Fin 512) :
    upRow (cw X.wu o ho) (cr X.wsu o ho) (cr X.bu o ho) (fun k => v85 X.raw (ix2 r k)) (v68 X.raw (ix2 r 0)) l
      = gg (wts X) (tok X r) ⟨o + l.val, by omega⟩ := by
  simp only [v85_eq X r _ hsu, v68_eq X r hsu]; rfl

theorem c0_eq : c0 X.raw (ix2 r l) = gg (wts X) (tok X r) ⟨0 + l.val, by omega⟩ := (pay18 ..).trans (up77 X r hsu 0 (by decide) l)
theorem c1_eq : c1 X.raw (ix2 r l) = gg (wts X) (tok X r) ⟨512 + l.val, by omega⟩ := (pay23 ..).trans (up77 X r hsu 512 (by decide) l)
theorem c2_eq : c2 X.raw (ix2 r l) = gg (wts X) (tok X r) ⟨1024 + l.val, by omega⟩ := (pay29 ..).trans (up85 X r hsu 1024 (by decide) l)
theorem c3_eq : c3 X.raw (ix2 r l) = gg (wts X) (tok X r) ⟨1536 + l.val, by omega⟩ := (pay31 ..).trans (up85 X r hsu 1536 (by decide) l)
theorem c4_eq : c4 X.raw (ix2 r l) = gg (wts X) (tok X r) ⟨2048 + l.val, by omega⟩ := (pay34 ..).trans (up85 X r hsu 2048 (by decide) l)
theorem c5_eq : c5 X.raw (ix2 r l) = gg (wts X) (tok X r) ⟨2560 + l.val, by omega⟩ := (pay39 ..).trans (up85 X r hsu 2560 (by decide) l)
theorem c6_eq : c6 X.raw (ix2 r l) = gg (wts X) (tok X r) ⟨3072 + l.val, by omega⟩ := (pay41 ..).trans (up85 X r hsu 3072 (by decide) l)
theorem c7_eq : c7 X.raw (ix2 r l) = gg (wts X) (tok X r) ⟨3584 + l.val, by omega⟩ := (pay44 ..).trans (up85 X r hsu 3584 (by decide) l)

theorem v308_eq : v308 X.raw (ix2 r 0) = gs (wts X) (tok X r) := by
  unfold v308; rw [pay45]
  unfold m6; rw [show k0_pay42 (v68 X.raw) (v85 X.raw) (m4 X.raw) (p36 X.raw) (p37 X.raw) _ _ _ (ix2 r 0) = _ from pay42 ..]
  unfold m4; rw [pay35]
  unfold m3; rw [show k0_pay32 (v68 X.raw) (v85 X.raw) (m1 X.raw) (p26 X.raw) (p27 X.raw) _ _ _ (ix2 r 0) = _ from pay32 ..]
  unfold m1; rw [pay24]
  unfold m0; rw [pay19]
  have e7 : ∀ o ho, upRow (cw X.wu o ho) (cr X.wsu o ho) (cr X.bu o ho) (fun k => v77 X.raw (ix2 r k)) (v68 X.raw (ix2 r 0))
      = fun l => gg (wts X) (tok X r) ⟨o + l.val, by omega⟩ := fun o ho => funext fun l => up77 X r hsu o ho l
  have e8 : ∀ o ho, upRow (cw X.wu o ho) (cr X.wsu o ho) (cr X.bu o ho) (fun k => v85 X.raw (ix2 r k)) (v68 X.raw (ix2 r 0))
      = fun l => gg (wts X) (tok X r) ⟨o + l.val, by omega⟩ := fun o ho => funext fun l => up85 X r hsu o ho l
  simp only [In.raw] at e7 e8 ⊢
  simp only [e7, e8, Nat.zero_add]
  exact congrArg scaleOf (amax_chunks _)

theorem v46_eq : v46 X.raw (ix2 0 r) = gs (wts X) (tok X r) := by
  rw [← v308_eq X r hsu]; unfold v46 v308; rw [pay46, pay45]

/-- A chunk's codes, whatever names they come under. -/
theorem code_eq (o : ℕ) (ho : o + 512 ≤ 4096) (g : Vec Ideal S256x512 .f32)
    (hg : g (ix2 r l) = gg (wts X) (tok X r) ⟨o + l.val, by omega⟩) :
    rc (g (ix2 r l)) (v308 X.raw (ix2 r 0)) = gc (wts X) (tok X r) ⟨o + l.val, by omega⟩ := by
  rw [hg, v308_eq X r hsu]; unfold gs; rw [rc_eq]; rfl

end

/-! ## The codes as arrays, and the second half -/

/-- The hidden rows as the body stores them: eight tiles of 512 columns, the newest first. -/
def gtiles (R : Raw) : List (View.Piece (Elt Ideal) S256x4096 .f32) :=
  [⟨Rect.unit ![0, 3584] ![256, 512] inb_S256x4096_S256x512_0_3584, c7 R⟩,
   ⟨Rect.unit ![0, 3072] ![256, 512] inb_S256x4096_S256x512_0_3072, c6 R⟩,
   ⟨Rect.unit ![0, 2560] ![256, 512] inb_S256x4096_S256x512_0_2560, c5 R⟩,
   ⟨Rect.unit ![0, 2048] ![256, 512] inb_S256x4096_S256x512_0_2048, c4 R⟩,
   ⟨Rect.unit ![0, 1536] ![256, 512] inb_S256x4096_S256x512_0_1536, c3 R⟩,
   ⟨Rect.unit ![0, 1024] ![256, 512] inb_S256x4096_S256x512_0_1024, c2 R⟩,
   ⟨Rect.unit ![0, 512] ![256, 512] inb_S256x4096_S256x512_0_512, c1 R⟩,
   ⟨Rect.unit ![0, 0] ![256, 512] inb_S256x4096_S256x512_0_0, c0 R⟩]

theorem inbG (o : ℕ) (ho : o + 512 ≤ 4096) : ∀ a, (![0, o] : Fin 2 → ℕ) a + (![256, 512] : Fin 2 → ℕ) a ≤ S256x4096.size a :=
  fun a => match a with
  | 0 => Nat.le_refl 256
  | 1 => ho

/-- A chunk of the hidden rows as the body reads it back. -/
def gback (R : Raw) (o : ℕ) (ho : o + 512 ≤ 4096) : Vec Ideal S256x512 .f32 :=
  @View.readCov sig (Proc.kind (Proc.tc : Proc τ)) Space.vmem S256x4096 EltTy.f32 (Elt Ideal) inferInstance (@View.whole sig Kind.tc cc0_scratch3)
    (gtiles R) (Rect.unit (s := S256x4096) ![0, o] ![256, 512] (inbG o ho)).toLoadRect

/-- A tile at column `o` that holds the codes there is the codes' tile. -/
theorem tile_emb {e : EltTy} (G : S256x4096.Idx → Elt Ideal e) (o : ℕ) (ho : o + 512 ≤ 4096) (inb) (p : S256x512.Idx → Elt Ideal e)
    (h : ∀ (r : Fin 256) (l : Fin 512), p (ix2 r l) = G (ix2 r ⟨o + l.val, by omega⟩)) (x : S256x512.Idx) :
    p x = G ((Rect.unit (s := S256x4096) ![0, o] S256x512.size inb).emb x) := by
  have e1 : x = ix2 (x 0) (x 1) := funext fun a => match a with
    | 0 => rfl
    | 1 => rfl
  have e2 : (Rect.unit (s := S256x4096) ![0, o] S256x512.size inb).emb x = ix2 (x 0) ⟨o + (x 1).val, Nat.lt_of_lt_of_le (Nat.add_lt_add_left (x 1).isLt o) ho⟩ :=
    funext fun a => Fin.ext (match a with
      | 0 => by show 0 + 1 * (x 0).val = (x 0).val; omega
      | 1 => by show o + 1 * (x 1).val = o + (x 1).val; omega)
  rw [e2]; exact (congrArg p e1).trans (h (x 0) (x 1))

/-- The hidden rows. -/
def hidden (X : In) : Vec Ideal S256x4096 .f32 := fun i => gg (wts X) (tok X (i 0)) (i 1)

theorem gtiles_hidden (hsu : ∀ j : Fin 1024, X.su (ix2 0 j) ≠ 0) : View.PiecesOf (hidden X) (gtiles X.raw) := by
  refine ⟨tile_emb _ 3584 (by decide) inb_S256x4096_S256x512_0_3584 _ fun r l => c7_eq X r l hsu,
    tile_emb _ 3072 (by decide) inb_S256x4096_S256x512_0_3072 _ fun r l => c6_eq X r l hsu,
    tile_emb _ 2560 (by decide) inb_S256x4096_S256x512_0_2560 _ fun r l => c5_eq X r l hsu,
    tile_emb _ 2048 (by decide) inb_S256x4096_S256x512_0_2048 _ fun r l => c4_eq X r l hsu,
    tile_emb _ 1536 (by decide) inb_S256x4096_S256x512_0_1536 _ fun r l => c3_eq X r l hsu,
    tile_emb _ 1024 (by decide) inb_S256x4096_S256x512_0_1024 _ fun r l => c2_eq X r l hsu,
    tile_emb _ 512 (by decide) inb_S256x4096_S256x512_0_512 _ fun r l => c1_eq X r l hsu,
    tile_emb _ 0 (by decide) inb_S256x4096_S256x512_0_0 _ fun r l => c0_eq X r l hsu, trivial⟩

theorem gtiles_cover (y : S256x4096.Idx) : ∃ p ∈ gtiles R, y ∈ p.1.set :=
  View.cover_of_tiledL (gtiles R) S256x512.size (by sl_kernel_rfl) y

theorem gback_eq (hsu : ∀ j : Fin 1024, X.su (ix2 0 j) ≠ 0) (o : ℕ) (ho : o + 512 ≤ 4096) (r : Fin 256) (l : Fin 512) :
    gback X.raw o ho (ix2 r l) = gg (wts X) (tok X r) ⟨o + l.val, by omega⟩ := by
  unfold gback
  rw [View.readCov_eq_canon_ld _ _ _ (gtiles_cover X.raw)]
  have e : View.canon (gtiles X.raw) = hidden X :=
    funext fun y => View.canon_apply_of_pieces (hidden X) _ (gtiles_hidden X hsu).mem y (gtiles_cover X.raw y)
  rw [e]
  exact (tile_emb (hidden X) o ho (inbG o ho) (fun x => hidden X (ix2 (x 0) ⟨o + (x 1).val, Nat.lt_of_lt_of_le (Nat.add_lt_add_left (x 1).isLt o) ho⟩))
    (fun _ _ => rfl) (ix2 r l)).symm

/-- The block's hidden codes as numbers, as the body stores them: eight tiles of 512 columns, the newest first. -/
def tiles (R : Raw) : List (View.Piece (Elt Ideal) S256x4096 .bf16) :=
  [⟨Rect.unit ![0, 3584] ![256, 512] inb_S256x4096_S256x512_0_3584, k0_pay76 (k0_pay72 (k0_pay48 (v308 R) k0_pay47) (gback R 3584 (by decide))) k0_pay73⟩,
   ⟨Rect.unit ![0, 3072] ![256, 512] inb_S256x4096_S256x512_0_3072, k0_pay71 (k0_pay48 (v308 R) k0_pay47) (gback R 3072 (by decide))⟩,
   ⟨Rect.unit ![0, 2560] ![256, 512] inb_S256x4096_S256x512_0_2560, k0_pay68 (k0_pay48 (v308 R) k0_pay47) (gback R 2560 (by decide))⟩,
   ⟨Rect.unit ![0, 2048] ![256, 512] inb_S256x4096_S256x512_0_2048, k0_pay65 (k0_pay48 (v308 R) k0_pay47) (gback R 2048 (by decide))⟩,
   ⟨Rect.unit ![0, 1536] ![256, 512] inb_S256x4096_S256x512_0_1536, k0_pay62 (k0_pay48 (v308 R) k0_pay47) (gback R 1536 (by decide))⟩,
   ⟨Rect.unit ![0, 1024] ![256, 512] inb_S256x4096_S256x512_0_1024, k0_pay59 (k0_pay55 (v308 R) k0_pay47 (gback R 1024 (by decide))) k0_pay56⟩,
   ⟨Rect.unit ![0, 512] ![256, 512] inb_S256x4096_S256x512_0_512, k0_pay54 (v308 R) k0_pay47 (gback R 512 (by decide))⟩,
   ⟨Rect.unit ![0, 0] ![256, 512] inb_S256x4096_S256x512_0_0, k0_pay51 (v308 R) k0_pay47 (gback R 0 (by decide))⟩]

/-- The block's hidden codes as int8 words, as the body stores them. -/
def tiles8 (R : Raw) : List (View.Piece (Elt Ideal) S256x4096 .i8) :=
  [⟨Rect.unit ![0, 3584] ![256, 512] inb_S256x4096_S256x512_0_3584, k0_pay75 (k0_pay72 (k0_pay48 (v308 R) k0_pay47) (gback R 3584 (by decide))) k0_pay73⟩,
   ⟨Rect.unit ![0, 3072] ![256, 512] inb_S256x4096_S256x512_0_3072, k0_pay70 (k0_pay48 (v308 R) k0_pay47) (gback R 3072 (by decide))⟩,
   ⟨Rect.unit ![0, 2560] ![256, 512] inb_S256x4096_S256x512_0_2560, k0_pay67 (k0_pay48 (v308 R) k0_pay47) (gback R 2560 (by decide))⟩,
   ⟨Rect.unit ![0, 2048] ![256, 512] inb_S256x4096_S256x512_0_2048, k0_pay64 (k0_pay48 (v308 R) k0_pay47) (gback R 2048 (by decide))⟩,
   ⟨Rect.unit ![0, 1536] ![256, 512] inb_S256x4096_S256x512_0_1536, k0_pay61 (k0_pay48 (v308 R) k0_pay47) (gback R 1536 (by decide))⟩,
   ⟨Rect.unit ![0, 1024] ![256, 512] inb_S256x4096_S256x512_0_1024, k0_pay58 (k0_pay55 (v308 R) k0_pay47 (gback R 1024 (by decide))) k0_pay56⟩,
   ⟨Rect.unit ![0, 512] ![256, 512] inb_S256x4096_S256x512_0_512, k0_pay53 (v308 R) k0_pay47 (gback R 512 (by decide))⟩,
   ⟨Rect.unit ![0, 0] ![256, 512] inb_S256x4096_S256x512_0_0, k0_pay50 (v308 R) k0_pay47 (gback R 0 (by decide))⟩]

/-- The block's hidden codes as numbers. -/
def codes (X : In) : Vec Ideal S256x4096 .bf16 := fun i => gc (wts X) (tok X (i 0)) (i 1)

/-- The block's hidden codes as int8 words. -/
def codes8 (X : In) : Vec Ideal S256x4096 .i8 := fun i => Ideal.fptosi 8 (gc (wts X) (tok X (i 0)) (i 1))

section
variable (hsu : ∀ j : Fin 1024, X.su (ix2 0 j) ≠ 0)
include hsu

theorem tiles_codes : View.PiecesOf (codes X) (tiles X.raw) := by
  refine ⟨tile_emb _ 3584 (by decide) inb_S256x4096_S256x512_0_3584 _ fun r l => (pay76 ..).trans (code_eq X r l hsu 3584 (by decide) _ (gback_eq X hsu 3584 (by decide) r l)),
    tile_emb _ 3072 (by decide) inb_S256x4096_S256x512_0_3072 _ fun r l => (pay71 ..).trans (code_eq X r l hsu 3072 (by decide) _ (gback_eq X hsu 3072 (by decide) r l)),
    tile_emb _ 2560 (by decide) inb_S256x4096_S256x512_0_2560 _ fun r l => (pay68 ..).trans (code_eq X r l hsu 2560 (by decide) _ (gback_eq X hsu 2560 (by decide) r l)),
    tile_emb _ 2048 (by decide) inb_S256x4096_S256x512_0_2048 _ fun r l => (pay65 ..).trans (code_eq X r l hsu 2048 (by decide) _ (gback_eq X hsu 2048 (by decide) r l)),
    tile_emb _ 1536 (by decide) inb_S256x4096_S256x512_0_1536 _ fun r l => (pay62 ..).trans (code_eq X r l hsu 1536 (by decide) _ (gback_eq X hsu 1536 (by decide) r l)),
    tile_emb _ 1024 (by decide) inb_S256x4096_S256x512_0_1024 _ fun r l => (pay59 ..).trans (code_eq X r l hsu 1024 (by decide) _ (gback_eq X hsu 1024 (by decide) r l)),
    tile_emb _ 512 (by decide) inb_S256x4096_S256x512_0_512 _ fun r l => (pay54 ..).trans (code_eq X r l hsu 512 (by decide) _ (gback_eq X hsu 512 (by decide) r l)),
    tile_emb _ 0 (by decide) inb_S256x4096_S256x512_0_0 _ fun r l => (pay51 ..).trans (code_eq X r l hsu 0 (by decide) _ (gback_eq X hsu 0 (by decide) r l)), trivial⟩

theorem tiles8_codes8 : View.PiecesOf (codes8 X) (tiles8 X.raw) := by
  refine ⟨tile_emb _ 3584 (by decide) inb_S256x4096_S256x512_0_3584 _ fun r l => (pay75 ..).trans (congrArg _ (code_eq X r l hsu 3584 (by decide) _ (gback_eq X hsu 3584 (by decide) r l))),
    tile_emb _ 3072 (by decide) inb_S256x4096_S256x512_0_3072 _ fun r l => (pay70 ..).trans (congrArg _ (code_eq X r l hsu 3072 (by decide) _ (gback_eq X hsu 3072 (by decide) r l))),
    tile_emb _ 2560 (by decide) inb_S256x4096_S256x512_0_2560 _ fun r l => (pay67 ..).trans (congrArg _ (code_eq X r l hsu 2560 (by decide) _ (gback_eq X hsu 2560 (by decide) r l))),
    tile_emb _ 2048 (by decide) inb_S256x4096_S256x512_0_2048 _ fun r l => (pay64 ..).trans (congrArg _ (code_eq X r l hsu 2048 (by decide) _ (gback_eq X hsu 2048 (by decide) r l))),
    tile_emb _ 1536 (by decide) inb_S256x4096_S256x512_0_1536 _ fun r l => (pay61 ..).trans (congrArg _ (code_eq X r l hsu 1536 (by decide) _ (gback_eq X hsu 1536 (by decide) r l))),
    tile_emb _ 1024 (by decide) inb_S256x4096_S256x512_0_1024 _ fun r l => (pay58 ..).trans (congrArg _ (code_eq X r l hsu 1024 (by decide) _ (gback_eq X hsu 1024 (by decide) r l))),
    tile_emb _ 512 (by decide) inb_S256x4096_S256x512_0_512 _ fun r l => (pay53 ..).trans (congrArg _ (code_eq X r l hsu 512 (by decide) _ (gback_eq X hsu 512 (by decide) r l))),
    tile_emb _ 0 (by decide) inb_S256x4096_S256x512_0_0 _ fun r l => (pay50 ..).trans (congrArg _ (code_eq X r l hsu 0 (by decide) _ (gback_eq X hsu 0 (by decide) r l))), trivial⟩

end

/-- The eight tiles cover the array. -/
theorem tiles_cover (y : S256x4096.Idx) : ∃ p ∈ tiles R, y ∈ p.1.set :=
  View.cover_of_tiledL (tiles R) S256x512.size (by sl_kernel_rfl) y

theorem tiles8_cover (y : S256x4096.Idx) : ∃ p ∈ tiles8 R, y ∈ p.1.set :=
  View.cover_of_tiledL (tiles8 R) S256x512.size (by sl_kernel_rfl) y

/-- The hidden codes as the body reads them back. -/
def readBack (R : Raw) : Vec Ideal S256x4096 .bf16 :=
  @View.readCov sig (Proc.kind (Proc.tc : Proc τ)) Space.vmem S256x4096 EltTy.bf16 (Elt Ideal) inferInstance (@View.whole sig Kind.tc cc0_scratch4)
    (tiles R) (Rect.unit (s := S256x4096) ![0, 0] ![256, 4096] inb_S256x4096_S256x4096_0_0).toLoadRect

theorem readBack_eq (hsu : ∀ j : Fin 1024, X.su (ix2 0 j) ≠ 0) : readBack X.raw = codes X := by
  unfold readBack
  rw [View.readCov_eq_canon_ld _ _ _ (tiles_cover X.raw), View.ld_unit_zero (by funext a; fin_cases a <;> rfl)]
  funext y
  exact View.canon_apply_of_pieces (codes X) _ (tiles_codes X hsu).mem y (tiles_cover X.raw y)

theorem canon8_eq (hsu : ∀ j : Fin 1024, X.su (ix2 0 j) ≠ 0) : View.canon (tiles8 X.raw) = codes8 X := by
  funext y
  exact View.canon_apply_of_pieces (codes8 X) _ (tiles8_codes8 X hsu).mem y (tiles8_cover X.raw y)

def a79 (R : Raw) (q : Vec Ideal S256x4096 .bf16) := k0_pay79 (v51 R) (v308 R) q R.wd R.wsd R.bd
def a80 (R : Raw) (q : Vec Ideal S256x4096 .bf16) := k0_pay80 (v51 R) (v308 R) q R.wd R.wsd R.bd
def v82 (R : Raw) (q : Vec Ideal S256x4096 .bf16) :=
  k0_pay82 (k0_pay77 R.g2) (k0_pay78 R.b2) (a79 R q) (a80 R q) (Scalar.ofBits .f32 0x2B8CBCCC#32)
def v83 (R : Raw) (q : Vec Ideal S256x4096 .bf16) (a : BitVec 32) (wc : Vec Ideal S1x1024 .f32) (acc : Vec Ideal S1x128 .f32) (st : Vec Ideal S1x128 .i32) :=
  k0_pay83 a (k0_pay77 R.g2) (k0_pay78 R.b2) (a79 R q) (a80 R q) (Scalar.ofBits .f32 0x2B8CBCCC#32) wc acc st

section
variable (r : Fin 256) (j : Fin 1024) (hsu : ∀ j : Fin 1024, X.su (ix2 0 j) ≠ 0)
include hsu

theorem yRow_eq : yRow (v51 X.raw) (v308 X.raw) (codes X) X.wd X.wsd X.bd r (k0_pay77 X.g2) (k0_pay78 X.b2)
    = yy (wts X) (tok X r) := by
  funext k
  unfold yRow dnRow
  simp only [v51_eq, v308_eq X r hsu, pay77, pay78]
  rfl

theorem v82_eq : v82 X.raw (codes X) (ix2 r j) = yy (wts X) (tok X r) j := by
  unfold v82 a79 a80; rw [pay82, yRow_eq X r hsu]

theorem v83_eq (a : BitVec 32) (wc : Vec Ideal S1x1024 .f32) (acc : Vec Ideal S1x128 .f32) (st : Vec Ideal S1x128 .i32) (p : Fin 128) :
    v83 X.raw (codes X) a wc acc st (ix2 0 p)
      = acc (ix2 0 p) + laneAdd a (fun r => scRow (yy (wts X) (tok X r)) (fun k => wc (ix2 0 k))) (st (ix2 0 p)) := by
  unfold v83 a79 a80; rw [pay83]
  simp only [yRow_eq X _ hsu]

end

end Cert.Ffn.Tower

end
-- ==== Proof.PointDefs.lean ====
/-
  The inputs that one grid point's body reads, gathered for `Tower.lean`.
-/
module

public import proofs.«01_k».proof.Proof.KernelIdealFrame
public import proofs.«01_k».proof.Proof.Tower
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic Cert.Ffn

variable (m : (ℓ : Loc nD τ sig) → Buf (Elt Ideal) ℓ) (c : Dev nD) (t : Fin cfg0.N)

/-- The inputs of point `t`, over the converted weights. -/
def pin (wo : Vec Ideal S1024x1024 .bf16) (wu : Vec Ideal S1024x4096 .bf16) (wd : Vec Ideal S4096x1024 .bf16) : Tower.In where
  s := iblk m c 2 t
  c := iblk m c 1 t
  x := iblk m c 3 t
  wo := wo
  wso := iblk m c 5 t
  bo := iblk m c 6 t
  g1 := iblk m c 7 t
  b1 := iblk m c 8 t
  su := iblk m c 9 t
  wu := wu
  wsu := iblk m c 11 t
  bu := iblk m c 12 t
  wd := wd
  wsd := iblk m c 14 t
  bd := iblk m c 15 t
  g2 := iblk m c 16 t
  b2 := iblk m c 17 t

/-- The inputs of the first point, which converts the weights itself. -/
def pinA : Tower.In := pin m c t (k0_pay1 (iblk m c 4 t)) (k0_pay2 (iblk m c 10 t)) (k0_pay3 (iblk m c 13 t))

/-! ## The same inputs as the body loads them -/

theorem inbW (o : ℕ) (ho : o + 512 ≤ 4096) : ∀ a, (![0, o] : Fin 2 → ℕ) a + S1024x512.size a ≤ S1024x4096.size a :=
  fun a => match a with
  | 0 => Nat.le_refl 1024
  | 1 => ho

theorem inbR (o : ℕ) (ho : o + 512 ≤ 4096) : ∀ a, (![0, o] : Fin 2 → ℕ) a + S1x512.size a ≤ S1x4096.size a :=
  fun a => match a with
  | 0 => Nat.le_refl 1
  | 1 => ho

/-- A chunk of a row of 4096 as the body loads it. -/
def ldR (v : Vec Ideal S1x4096 .f32) (o : ℕ) (ho : o + 512 ≤ 4096) : Vec Ideal S1x512 .f32 :=
  View.ld v (Rect.unit (s := S1x4096) ![0, o] ![1, 512] (inbR o ho))

theorem ldR_eq (v : Vec Ideal S1x4096 .f32) : ldR v = Tower.cr v := by
  funext o ho; exact Tower.ld_cr v o ho _

theorem raw_mk (s : Vec Ideal S1x256 .f32) (c : Vec Ideal S256x1024 .i8) (x : Vec Ideal S256x1024 .bf16) (wo : Vec Ideal S1024x1024 .bf16)
    (wso bo g1 b1 su : Vec Ideal S1x1024 .f32) (wu : Vec Ideal S1024x4096 .bf16) (wsu bu : Vec Ideal S1x4096 .f32)
    (wd : Vec Ideal S4096x1024 .bf16) (wsd bd g2 b2 : Vec Ideal S1x1024 .f32) :
    Tower.Raw.mk s c x wo wso bo g1 b1 su (Tower.cw wu) (ldR wsu) (ldR bu) wd wsd bd g2 b2
      = (Tower.In.mk s c x wo wso bo g1 b1 su wu wsu bu wd wsd bd g2 b2).raw := by
  rw [ldR_eq, ldR_eq]

/-- The inputs of point `t`, over the weights as loaded. -/
def praw (wo : Vec Ideal S1024x1024 .bf16) (wu : (o : ℕ) → o + 512 ≤ 4096 → Vec Ideal S1024x512 .bf16) (wd : Vec Ideal S4096x1024 .bf16) : Tower.Raw where
  s := iblk m c 2 t
  c := iblk m c 1 t
  x := iblk m c 3 t
  wo := wo
  wso := iblk m c 5 t
  bo := iblk m c 6 t
  g1 := iblk m c 7 t
  b1 := iblk m c 8 t
  su := iblk m c 9 t
  wu := wu
  wsu := ldR (iblk m c 11 t)
  bu := ldR (iblk m c 12 t)
  wd := wd
  wsd := iblk m c 14 t
  bd := iblk m c 15 t
  g2 := iblk m c 16 t
  b2 := iblk m c 17 t

/-- A chunk of the up weights as the first point reads it back. -/
def fillW (v : Vec Ideal S1024x4096 .bf16) (o : ℕ) (ho : o + 512 ≤ 4096) : Vec Ideal S1024x512 .bf16 :=
  @View.readCov sig (Proc.kind (Proc.tc : Proc τ)) Space.vmem S1024x4096 EltTy.bf16 (Elt Ideal) inferInstance (@View.whole sig Kind.tc cc0_scratch1)
    [⟨Rect.unit (s := S1024x4096) ![0, 0] ![1024, 4096] inb_S1024x4096_S1024x4096_0_0, v⟩]
    (Rect.unit (s := S1024x4096) ![0, o] ![1024, 512] (inbW o ho)).toLoadRect

/-- The converted output weights as a later point reads them. -/
def held0 (v : Vec Ideal S1024x1024 .bf16) : Vec Ideal S1024x1024 .bf16 :=
  @View.read sig (Elt Ideal) (Proc.kind (Proc.tc : Proc τ)) Space.vmem S1024x1024 EltTy.bf16 (@View.whole sig Kind.tc cc0_scratch0)
    (@Memref.IsWhole.unread sig (Elt Ideal) Kind.tc Space.vmem S1024x1024 EltTy.bf16 scM0_0 (@Memref.isWhole_whole sig Kind.tc cc0_scratch0) v)

/-- The converted down weights as a later point reads them. -/
def held2 (v : Vec Ideal S4096x1024 .bf16) : Vec Ideal S4096x1024 .bf16 :=
  @View.read sig (Elt Ideal) (Proc.kind (Proc.tc : Proc τ)) Space.vmem S4096x1024 EltTy.bf16 (@View.whole sig Kind.tc cc0_scratch2)
    (@Memref.IsWhole.unread sig (Elt Ideal) Kind.tc Space.vmem S4096x1024 EltTy.bf16 scM0_2 (@Memref.isWhole_whole sig Kind.tc cc0_scratch2) v)

/-- A chunk of the up weights as a later point loads it. -/
def heldW (v : Vec Ideal S1024x4096 .bf16) (o : ℕ) (ho : o + 512 ≤ 4096) : Vec Ideal S1024x512 .bf16 :=
  View.ld (@View.read sig (Elt Ideal) (Proc.kind (Proc.tc : Proc τ)) Space.vmem S1024x4096 EltTy.bf16 (@View.whole sig Kind.tc cc0_scratch1)
    (@Memref.IsWhole.unread sig (Elt Ideal) Kind.tc Space.vmem S1024x4096 EltTy.bf16 scM0_1 (@Memref.isWhole_whole sig Kind.tc cc0_scratch1) v))
    (Rect.unit (s := S1024x4096) ![0, o] ![1024, 512] (inbW o ho))

theorem held0_eq (v : Vec Ideal S1024x1024 .bf16) : held0 v = v := read_unread_whole cc0_scratch0 _ v
theorem held2_eq (v : Vec Ideal S4096x1024 .bf16) : held2 v = v := read_unread_whole cc0_scratch2 _ v

theorem praw_eq (wo : Vec Ideal S1024x1024 .bf16) (wu : Vec Ideal S1024x4096 .bf16) (wd : Vec Ideal S4096x1024 .bf16) :
    praw m c t wo (Tower.cw wu) wd = (pin m c t wo wu wd).raw := by
  exact raw_mk ..

theorem fillW_eq (v : Vec Ideal S1024x4096 .bf16) : fillW v = Tower.cw v := by
  funext o ho
  have h0 : ∀ a : Fin 2, (![0, 0] : Fin 2 → ℕ) a = 0 := by decide
  have e := View.readCov_fill (s := S1024x4096) (e := .bf16) (Val := Elt Ideal) (View.whole cc0_scratch1) inb_S1024x4096_S1024x4096_0_0 v []
    (Rect.unit (s := S1024x4096) ![0, o] S1024x512.size (inbW o ho)) h0
  unfold fillW
  exact e.trans (Tower.ld_cw v o ho _)

theorem heldW_eq (v : Vec Ideal S1024x4096 .bf16) : heldW v = Tower.cw v := by
  funext o ho
  have e := read_unread_whole cc0_scratch1 (Memref.isWhole_whole cc0_scratch1) v
  refine (congrArg (fun w : Vec Ideal S1024x4096 .bf16 => View.ld w (Rect.unit (s := S1024x4096) ![0, o] ![1024, 512] (inbW o ho))) e).trans ?_
  exact Tower.ld_cw v o ho _

/-- A later point's inputs as the body loads them. -/
def rawB (xs0 : Vec Ideal S1024x1024 .bf16) (xs1 : Vec Ideal S1024x4096 .bf16) (xs2 : Vec Ideal S4096x1024 .bf16) : Tower.Raw :=
  praw m c t (held0 xs0) (heldW xs1) (held2 xs2)

theorem rawB_eq (xs0 : Vec Ideal S1024x1024 .bf16) (xs1 : Vec Ideal S1024x4096 .bf16) (xs2 : Vec Ideal S4096x1024 .bf16) :
    rawB m c t xs0 xs1 xs2 = (pin m c t xs0 xs1 xs2).raw := by
  unfold rawB; rw [heldW_eq, held0_eq, held2_eq, praw_eq]

/-- The first point's inputs as the body loads them. -/
def rawA : Tower.Raw := praw m c t (k0_pay1 (iblk m c 4 t)) (fillW (k0_pay2 (iblk m c 10 t))) (k0_pay3 (iblk m c 13 t))

theorem rawA_eq : rawA m c t = (pinA m c t).raw := by
  unfold rawA pinA; rw [fillW_eq, praw_eq]

end Cert.KernelIdeal.Gen

end
-- ==== Proof.PointA.lean ====
module

public import proofs.«01_k».proof.Proof.PointDefs

/-! What the first grid point leaves in each output block: the tower of one block of tokens over the weights that the point converts itself. -/

@[expose] public section

set_option maxRecDepth 16384
set_option maxHeartbeats 400000

noncomputable section

namespace Cert.KernelIdeal.Gen

open Idealize.ShloMosaic Idealize.SL Idealize.SL.Sem Cert.KernelIdeal Cert.Ffn

variable (m : (ℓ : Loc nD τ sig) → Buf (Elt Ideal) ℓ) (c : Dev nD) (t : Fin cfg0.N) (h0 : t.val % 41 = 0)

/-- Row 0 of the block of sequence starts. -/
def strow : Vec Ideal S1x128 .i32 := View.ld (iblk m c 0 t) (Rect.unit (s := S2x128) ![0, 0] ![1, 128] inb_S2x128_S1x128_0_0)

theorem out0_A_19_eq : out0_A_19 m c t h0 = Tower.v10 (rawA m c t) := by
  unfold out0_A_19 runA; frame_out
  sl_kernel_rfl

theorem out0_A_20_eq : out0_A_20 m c t h0 = Tower.v82 (rawA m c t) (Tower.readBack (rawA m c t)) := by
  unfold out0_A_20 runA; frame_out
  sl_kernel_rfl

theorem out0_A_21_eq : out0_A_21 m c t h0
    = Tower.v83 (rawA m c t) (Tower.readBack (rawA m c t)) (BitVec.ofNat 32 (grid0.coords t 0).val) (iblk m c 18 t) (k0_pay4 (F := Ideal)) (strow m c t) := by
  unfold out0_A_21 runA; frame_out
  sl_kernel_rfl

theorem out0_A_22_eq : out0_A_22 m c t h0 = Tower.v14 (rawA m c t) := by
  unfold out0_A_22 runA; frame_out
  sl_kernel_rfl

theorem out0_A_23_eq : out0_A_23 m c t h0 = k0_pay15 (Tower.v68 (rawA m c t)) := by
  unfold out0_A_23 runA; frame_out
  sl_kernel_rfl

theorem out0_A_24_eq : out0_A_24 m c t h0 = View.canon (Tower.tiles8 (rawA m c t)) := by
  unfold out0_A_24 runA; frame_out
  sl_kernel_rfl

theorem out0_A_25_eq : out0_A_25 m c t h0 = Tower.v46 (rawA m c t) := by
  unfold out0_A_25 runA; frame_out
  sl_kernel_rfl

/-- The first point leaves the three converted weights in the scratch buffers. -/
theorem sout0_A_0_eq : sout0_A_0 m c t h0 = k0_pay1 (iblk m c 4 t) := by
  unfold sout0_A_0 runA; frame_out

theorem sout0_A_1_eq : sout0_A_1 m c t h0 = k0_pay2 (iblk m c 10 t) := by
  unfold sout0_A_1 runA; frame_out

theorem sout0_A_2_eq : sout0_A_2 m c t h0 = k0_pay3 (iblk m c 13 t) := by
  unfold sout0_A_2 runA; frame_out

end Cert.KernelIdeal.Gen

end
-- ==== Proof.PointB.lean ====
module

public import proofs.«01_k».proof.Proof.PointA

/-! What a later grid point leaves in each output block: the same tower over the converted weights that it finds in the scratch buffers. -/

@[expose] public section

set_option maxRecDepth 16384
set_option maxHeartbeats 400000

noncomputable section

namespace Cert.KernelIdeal.Gen

open Idealize.ShloMosaic Idealize.SL Idealize.SL.Sem Cert.KernelIdeal Cert.Ffn

variable (m : (ℓ : Loc nD τ sig) → Buf (Elt Ideal) ℓ) (c : Dev nD) (t : Fin cfg0.N) (h0 : ¬t.val % 41 = 0)
  (xo21 : Vec Ideal S1x128 .f32) (xs0 : Vec Ideal S1024x1024 .bf16) (xs1 : Vec Ideal S1024x4096 .bf16) (xs2 : Vec Ideal S4096x1024 .bf16)

theorem out0_B_19_eq : out0_B_19 m c t h0 xo21 xs0 xs1 xs2
    = Tower.v10 (rawB m c t xs0 xs1 xs2) := by
  unfold out0_B_19 runB; frame_out
  sl_kernel_rfl

theorem out0_B_20_eq : out0_B_20 m c t h0 xo21 xs0 xs1 xs2
    = Tower.v82 (rawB m c t xs0 xs1 xs2) (Tower.readBack (rawB m c t xs0 xs1 xs2)) := by
  unfold out0_B_20 runB; frame_out
  sl_kernel_rfl

theorem out0_B_21_eq : out0_B_21 m c t h0 xo21 xs0 xs1 xs2
    = Tower.v83 (rawB m c t xs0 xs1 xs2) (Tower.readBack (rawB m c t xs0 xs1 xs2)) (BitVec.ofNat 32 (grid0.coords t 0).val) (iblk m c 18 t) xo21 (strow m c t) := by
  unfold out0_B_21 runB; frame_out
  sl_kernel_rfl

theorem out0_B_22_eq : out0_B_22 m c t h0 xo21 xs0 xs1 xs2
    = Tower.v14 (rawB m c t xs0 xs1 xs2) := by
  unfold out0_B_22 runB; frame_out
  sl_kernel_rfl

theorem out0_B_23_eq : out0_B_23 m c t h0 xo21 xs0 xs1 xs2
    = k0_pay15 (Tower.v68 (rawB m c t xs0 xs1 xs2)) := by
  unfold out0_B_23 runB; frame_out
  sl_kernel_rfl

theorem out0_B_24_eq : out0_B_24 m c t h0 xo21 xs0 xs1 xs2
    = View.canon (Tower.tiles8 (rawB m c t xs0 xs1 xs2)) := by
  unfold out0_B_24 runB; frame_out
  sl_kernel_rfl

theorem out0_B_25_eq : out0_B_25 m c t h0 xo21 xs0 xs1 xs2
    = Tower.v46 (rawB m c t xs0 xs1 xs2) := by
  unfold out0_B_25 runB; frame_out
  sl_kernel_rfl

end Cert.KernelIdeal.Gen

end
-- ==== Proof.Args.lean ====
/-
  The arguments that both programs take, and what each result is of them, row by row.
-/
module

public import proofs.«01_k».proof.KernelIdeal
public import proofs.«01_k».proof.Proof.Row

@[expose] public section

noncomputable section

namespace Cert.Ffn

open Idealize.ShloMosaic Cert.KernelIdeal

/-- The nineteen arguments. -/
structure Args where
  cu : Vec Ideal S49 .i32
  cc : Vec Ideal S10415x1024 .i8
  cs : Vec Ideal S10415 .f32
  x : Vec Ideal S10415x1024 .bf16
  wo : Vec Ideal S1024x1024 .i8
  wso : Vec Ideal S1024 .f32
  bo : Vec Ideal S1024 .f32
  g1 : Vec Ideal S1024 .f32
  b1 : Vec Ideal S1024 .f32
  su : Vec Ideal S1024 .f32
  wu : Vec Ideal S1024x4096 .i8
  wsu : Vec Ideal S4096 .f32
  bu : Vec Ideal S4096 .f32
  wd : Vec Ideal S4096x1024 .i8
  wsd : Vec Ideal S1024 .f32
  bd : Vec Ideal S1024 .f32
  g2 : Vec Ideal S1024 .f32
  b2 : Vec Ideal S1024 .f32
  wcl : Vec Ideal S1024 .f32

namespace Args

variable (A : Args)

/-- The layer's weights as matrices of numbers. -/
def wts : Wts where
  wo k j := num (A.wo (ix2 k j))
  wso j := A.wso (ix1 j)
  bo j := A.bo (ix1 j)
  g1 j := A.g1 (ix1 j)
  b1 j := A.b1 (ix1 j)
  su j := A.su (ix1 j)
  wu k j := num (A.wu (ix2 k j))
  wsu j := A.wsu (ix1 j)
  bu j := A.bu (ix1 j)
  wd k j := num (A.wd (ix2 k j))
  wsd j := A.wsd (ix1 j)
  bd j := A.bd (ix1 j)
  g2 j := A.g2 (ix1 j)
  b2 j := A.b2 (ix1 j)

/-- Token `n`'s inputs. -/
def tok (n : Fin 10415) : Tok where
  c k := num (A.cc (ix2 n k))
  s := A.cs (ix1 n)
  x k := A.x (ix2 n k)

/-- The first result: the first layer norm. -/
def rH1 : Vec Ideal S10415x1024 .bf16 := fun i => h1 A.wts (A.tok (i 0)) (i 1)
/-- The second result: the layer's output. -/
def rY : Vec Ideal S10415x1024 .bf16 := fun i => yy A.wts (A.tok (i 0)) (i 1)
/-- The codes of the smoothed rows. -/
def rHc : Vec Ideal S10415x1024 .i8 := fun i => Ideal.fptosi 8 (hc A.wts (A.tok (i 0)) (i 1))
/-- The scales of the smoothed rows. -/
def rHs : Vec Ideal S10415 .f32 := fun i => hs A.wts (A.tok (i 0))
/-- The codes of the hidden rows. -/
def rGc : Vec Ideal S10415x4096 .i8 := fun i => Ideal.fptosi 8 (gc A.wts (A.tok (i 0)) (i 1))
/-- The scales of the hidden rows. -/
def rGs : Vec Ideal S10415 .f32 := fun i => gs A.wts (A.tok (i 0))

/-- Every sequence starts inside the tokens. -/
def InRange : Prop := ∀ p : Fin 48, (A.cu (ix1 (p.castLE (by decide)))).toNat < 10415

variable (h : A.InRange)

/-- The token at which sequence `p` starts. -/
def start (p : Fin 48) : Fin 10415 := ⟨(A.cu (ix1 (p.castLE (by decide)))).toNat, h p⟩

/-- The pair scores: the output row at each start against the classifier. -/
def rScore : Vec Ideal S48 .f32 := fun i => ∑ k : Fin 1024, yy A.wts (A.tok (A.start h (i 0))) k * A.wcl (ix1 k)

end Args

end Cert.Ffn

end
-- ==== Proof.Inputs.lean ====
/-
  The blocks that the grid points read, as parts of the arguments: the weights whole, the tokens padded to 41 blocks of 256 rows.
-/
module

public import proofs.«01_k».proof.Proof.PointDefs
public import proofs.«01_k».proof.Proof.Args
public import Idealize.ShloMosaic.Lib.Claim
public import Idealize.ShloMosaic.Lib.KernelVsHost

@[expose] public section

set_option maxRecDepth 16384

noncomputable section

namespace Cert.KernelIdeal.Gen

open Idealize.ShloMosaic Idealize.SL Idealize.SL.Sem Cert.KernelIdeal Cert.Ffn

variable (m : (ℓ : Loc nD τ sig) → Buf (Elt Ideal) ℓ) (c : Dev nD) (t : Fin cfg0.N)

/-- The arguments as launched. -/
def args : Args where
  cu := m ((c.tc : Thread nD τ).loc main_arg0)
  cc := m ((c.tc : Thread nD τ).loc main_arg1)
  cs := m ((c.tc : Thread nD τ).loc main_arg2)
  x := m ((c.tc : Thread nD τ).loc main_arg3)
  wo := m ((c.tc : Thread nD τ).loc main_arg4)
  wso := m ((c.tc : Thread nD τ).loc main_arg5)
  bo := m ((c.tc : Thread nD τ).loc main_arg6)
  g1 := m ((c.tc : Thread nD τ).loc main_arg7)
  b1 := m ((c.tc : Thread nD τ).loc main_arg8)
  su := m ((c.tc : Thread nD τ).loc main_arg9)
  wu := m ((c.tc : Thread nD τ).loc main_arg10)
  wsu := m ((c.tc : Thread nD τ).loc main_arg11)
  bu := m ((c.tc : Thread nD τ).loc main_arg12)
  wd := m ((c.tc : Thread nD τ).loc main_arg13)
  wsd := m ((c.tc : Thread nD τ).loc main_arg14)
  bd := m ((c.tc : Thread nD τ).loc main_arg15)
  g2 := m ((c.tc : Thread nD τ).loc main_arg16)
  b2 := m ((c.tc : Thread nD τ).loc main_arg17)
  wcl := m ((c.tc : Thread nD τ).loc main_arg18)

/-! ## Reading rows and padded arrays -/

/-- A vector as one row, at a lane. -/
theorem oneRow {n : ℕ} {β : Type} (z : (⟨1, ![n]⟩ : Shape).Idx → β) (h : (⟨1, ![n]⟩ : Shape).ShapeCasts (⟨2, ![1, n]⟩ : Shape)) (j : Fin n) :
    shapeCast (⟨2, ![1, n]⟩ : Shape) z h (ix2 0 j) = z (ix1 j) :=
  (shapeCast_addUnit_apply ![n] z h (ix2 0 j)).trans (congrArg z (funext fun a => by fin_cases a; rfl))

/-- A matrix padded below, at one of its own rows. -/
theorem padBelow {n N q e : ℕ} {β : Type} (z : (⟨2, ![n, q]⟩ : Shape).Idx → β) {u : Shape} (v : u.Idx → β)
    (h : (⟨2, ![n, q]⟩ : Shape).Pads ![0, 0] ![e, 0] ![0, 0] (⟨2, ![N, q]⟩ : Shape)) (hu : 0 < u.numel) (i : Fin N) (hi : i.val < n) (j : Fin q) :
    pad (⟨2, ![N, q]⟩ : Shape) ![0, 0] ![e, 0] ![0, 0] z v h hu (ix2 i j) = z (ix2 ⟨i.val, hi⟩ j) := by
  refine pad_apply_of_inside _ _ _ z v h hu _ _ fun a => ?_
  fin_cases a <;> simp [ix2]

/-- A matrix padded on the right, at one of its own columns. -/
theorem padRight {n N q e : ℕ} {β : Type} (z : (⟨2, ![q, n]⟩ : Shape).Idx → β) {u : Shape} (v : u.Idx → β)
    (h : (⟨2, ![q, n]⟩ : Shape).Pads ![0, 0] ![0, e] ![0, 0] (⟨2, ![q, N]⟩ : Shape)) (hu : 0 < u.numel) (j : Fin q) (i : Fin N) (hi : i.val < n) :
    pad (⟨2, ![q, N]⟩ : Shape) ![0, 0] ![0, e] ![0, 0] z v h hu (ix2 j i) = z (ix2 j ⟨i.val, hi⟩) := by
  refine pad_apply_of_inside _ _ _ z v h hu _ _ fun a => ?_
  fin_cases a <;> simp [ix2]

/-! ## What the host operations before the region leave -/

/-- The vectors as single rows. -/
theorem V_rows :
    V m c main_v12 = shapeCast S1x1024 (m ((c.tc : Thread nD τ).loc main_arg5)) shapeCasts_S1024_S1x1024
    ∧ V m c main_v13 = shapeCast S1x1024 (m ((c.tc : Thread nD τ).loc main_arg6)) shapeCasts_S1024_S1x1024
    ∧ V m c main_v14 = shapeCast S1x1024 (m ((c.tc : Thread nD τ).loc main_arg7)) shapeCasts_S1024_S1x1024
    ∧ V m c main_v15 = shapeCast S1x1024 (m ((c.tc : Thread nD τ).loc main_arg8)) shapeCasts_S1024_S1x1024
    ∧ V m c main_v16 = shapeCast S1x1024 (m ((c.tc : Thread nD τ).loc main_arg9)) shapeCasts_S1024_S1x1024
    ∧ V m c main_v17 = shapeCast S1x4096 (m ((c.tc : Thread nD τ).loc main_arg11)) shapeCasts_S4096_S1x4096
    ∧ V m c main_v18 = shapeCast S1x4096 (m ((c.tc : Thread nD τ).loc main_arg12)) shapeCasts_S4096_S1x4096
    ∧ V m c main_v19 = shapeCast S1x1024 (m ((c.tc : Thread nD τ).loc main_arg14)) shapeCasts_S1024_S1x1024
    ∧ V m c main_v20 = shapeCast S1x1024 (m ((c.tc : Thread nD τ).loc main_arg15)) shapeCasts_S1024_S1x1024
    ∧ V m c main_v21 = shapeCast S1x1024 (m ((c.tc : Thread nD τ).loc main_arg16)) shapeCasts_S1024_S1x1024
    ∧ V m c main_v22 = shapeCast S1x1024 (m ((c.tc : Thread nD τ).loc main_arg17)) shapeCasts_S1024_S1x1024
    ∧ V m c main_v23 = shapeCast S1x1024 (m ((c.tc : Thread nD τ).loc main_arg18)) shapeCasts_S1024_S1x1024 := by
  refine ⟨?_, ?_, ?_, ?_, ?_, ?_, ?_, ?_, ?_, ?_, ?_, ?_⟩
  all_goals
    show StableHlo.after _ _ _ = _
    simp only [hostOps0, hostOps0_1, hostOps0_2, hostOps0_3, hostOps0_4, hostOps0_5, hostOps0_6, List.flatten_cons, List.flatten_nil, List.append_nil, List.cons_append, List.nil_append]
    after_results <;> rfl

/-- The context codes padded below. -/
theorem V_cc : V m c main_v8 = pad S10496x1024 ![0, 0] ![81, 0] ![0, 0] (m ((c.tc : Thread nD τ).loc main_arg1))
    (trunci 8 (constantI S_ 32 0#32) natLt_8_32) pads_S10415x1024_S10496x1024_0810_000 h_S_ := by
  show StableHlo.after _ _ _ = _
  simp only [hostOps0, hostOps0_1, hostOps0_2, hostOps0_3, hostOps0_4, hostOps0_5, hostOps0_6, List.flatten_cons, List.flatten_nil, List.append_nil, List.cons_append, List.nil_append]
  after_results <;> rfl

/-- The context scales as one row, padded. -/
theorem V_cs : V m c main_v10 = pad S1x10496 ![0, 0] ![0, 81] ![0, 0] (shapeCast S1x10415 (m ((c.tc : Thread nD τ).loc main_arg2)) shapeCasts_S10415_S1x10415)
    (sitofp .f32 (constantI S_ 32 0#32) : FVec Ideal S_ .f32) pads_S1x10415_S1x10496_000_0810 h_S_ := by
  show StableHlo.after _ _ _ = _
  simp only [hostOps0, hostOps0_1, hostOps0_2, hostOps0_3, hostOps0_4, hostOps0_5, hostOps0_6, List.flatten_cons, List.flatten_nil, List.append_nil, List.cons_append, List.nil_append]
  after_results <;> rfl

/-- The residual padded below. -/
theorem V_x : V m c main_v11 = pad S10496x1024 ![0, 0] ![81, 0] ![0, 0] (m ((c.tc : Thread nD τ).loc main_arg3))
    (sitofp .bf16 (constantI S_ 32 0#32) : FVec Ideal S_ .bf16) pads_S10415x1024_S10496x1024_0810_000 h_S_ := by
  show StableHlo.after _ _ _ = _
  simp only [hostOps0, hostOps0_1, hostOps0_2, hostOps0_3, hostOps0_4, hostOps0_5, hostOps0_6, List.flatten_cons, List.flatten_nil, List.append_nil, List.cons_append, List.nil_append]
  after_results <;> rfl

/-- The starts in the first row, filled up to 128. -/
theorem V_cul (p : Fin 48) : V m c main_v7 (ix2 0 (p.castLE (by decide))) = (args m c).cu (ix1 (p.castLE (by decide))) := by
  have e : V m c main_v7 = concatenate S2x128 0
      [⟨S1x128, broadcastInDim S1x128 ![1] bcast_S128_S1x128_1 (concatenate S128 0
          [⟨S48, extractStridedSlice S48 ![0] (m ((c.tc : Thread nD τ).loc main_arg0)) slices_S49_S48_0⟩,
            ⟨S80, broadcastInDim S80 ![] bcast_S_S80 (constantI S_ 32 10415#32)⟩] concatenates_S48_S80_S128_d0)⟩,
        ⟨S1x128, broadcastInDim S1x128 ![1] bcast_S128_S1x128_1 (concatenate S128 0
          [⟨S48, extractStridedSlice S48 ![1] (m ((c.tc : Thread nD τ).loc main_arg0)) slices_S49_S48_1⟩,
            ⟨S80, broadcastInDim S80 ![] bcast_S_S80 (constantI S_ 32 10415#32)⟩] concatenates_S48_S80_S128_d0)⟩]
      concatenates_S1x128_S1x128_S2x128_d0 := by
    show StableHlo.after _ _ _ = _
    simp only [hostOps0, hostOps0_1, hostOps0_2, hostOps0_3, hostOps0_4, hostOps0_5, hostOps0_6, List.flatten_cons, List.flatten_nil, List.append_nil, List.cons_append, List.nil_append]
    after_results <;> rfl
  rw [e]; unfold args; pointwise
  exact dif_pos p.isLt

theorem row_cc (n : Fin 10496) (h : n.val < 10415) (j : Fin 1024) : V m c main_v8 (ix2 n j) = (args m c).cc (ix2 ⟨n.val, h⟩ j) := by
  rw [V_cc]; exact padBelow _ _ _ _ n h j

theorem row_cs (n : Fin 10496) (h : n.val < 10415) : V m c main_v10 (ix2 0 n) = (args m c).cs (ix1 ⟨n.val, h⟩) := by
  rw [V_cs, padRight _ _ _ _ 0 n h]; exact oneRow _ _ _

theorem row_x (n : Fin 10496) (h : n.val < 10415) (j : Fin 1024) : V m c main_v11 (ix2 n j) = (args m c).x (ix2 ⟨n.val, h⟩ j) := by
  rw [V_x]; exact padBelow _ _ _ _ n h j

/-! ## The blocks -/

theorem at0 : ∀ t : Fin cfg0.N, win0_0.index t 0 = 0 ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = t.val := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = 0 ∧ win0_8.index t 1 = 0 := by decide +kernel
theorem at9 : ∀ t : Fin cfg0.N, win0_9.index t 0 = 0 ∧ win0_9.index t 1 = 0 := by decide +kernel
theorem at10 : ∀ t : Fin cfg0.N, win0_10.index t 0 = 0 ∧ win0_10.index t 1 = 0 := by decide +kernel
theorem at11 : ∀ t : Fin cfg0.N, win0_11.index t 0 = 0 ∧ win0_11.index t 1 = 0 := by decide +kernel
theorem at12 : ∀ t : Fin cfg0.N, win0_12.index t 0 = 0 ∧ win0_12.index t 1 = 0 := by decide +kernel
theorem at13 : ∀ t : Fin cfg0.N, win0_13.index t 0 = 0 ∧ win0_13.index t 1 = 0 := by decide +kernel
theorem at14 : ∀ t : Fin cfg0.N, win0_14.index t 0 = 0 ∧ win0_14.index t 1 = 0 := by decide +kernel
theorem at15 : ∀ t : Fin cfg0.N, win0_15.index t 0 = 0 ∧ win0_15.index t 1 = 0 := by decide +kernel
theorem at16 : ∀ t : Fin cfg0.N, win0_16.index t 0 = 0 ∧ win0_16.index t 1 = 0 := by decide +kernel
theorem at17 : ∀ t : Fin cfg0.N, win0_17.index t 0 = 0 ∧ win0_17.index t 1 = 0 := by decide +kernel
theorem at18 : ∀ t : Fin cfg0.N, win0_18.index t 0 = 0 ∧ win0_18.index t 1 = 0 := by decide +kernel

theorem iblk4 (k : Fin 1024) (j : Fin 1024) : iblk m c 4 t (ix2 k j) = (args m c).wo (ix2 k j) := by
  unfold args; blk_ext [iblk, (at4 t).1, (at4 t).2]
theorem iblk10 (k : Fin 1024) (j : Fin 4096) : iblk m c 10 t (ix2 k j) = (args m c).wu (ix2 k j) := by
  unfold args; blk_ext [iblk, (at10 t).1, (at10 t).2]
theorem iblk13 (k : Fin 4096) (j : Fin 1024) : iblk m c 13 t (ix2 k j) = (args m c).wd (ix2 k j) := by
  unfold args; blk_ext [iblk, (at13 t).1, (at13 t).2]
theorem iblk5 (j : Fin 1024) : iblk m c 5 t (ix2 0 j) = (args m c).wso (ix1 j) := by
  have e : iblk m c 5 t (ix2 0 j) = V m c main_v12 (ix2 0 j) := by blk_ext [iblk, (at5 t).1, (at5 t).2]
  rw [e, (V_rows m c).1]; exact oneRow _ _ j
theorem iblk6 (j : Fin 1024) : iblk m c 6 t (ix2 0 j) = (args m c).bo (ix1 j) := by
  have e : iblk m c 6 t (ix2 0 j) = V m c main_v13 (ix2 0 j) := by blk_ext [iblk, (at6 t).1, (at6 t).2]
  rw [e, (V_rows m c).2.1]; exact oneRow _ _ j
theorem iblk7 (j : Fin 1024) : iblk m c 7 t (ix2 0 j) = (args m c).g1 (ix1 j) := by
  have e : iblk m c 7 t (ix2 0 j) = V m c main_v14 (ix2 0 j) := by blk_ext [iblk, (at7 t).1, (at7 t).2]
  rw [e, (V_rows m c).2.2.1]; exact oneRow _ _ j
theorem iblk8 (j : Fin 1024) : iblk m c 8 t (ix2 0 j) = (args m c).b1 (ix1 j) := by
  have e : iblk m c 8 t (ix2 0 j) = V m c main_v15 (ix2 0 j) := by blk_ext [iblk, (at8 t).1, (at8 t).2]
  rw [e, (V_rows m c).2.2.2.1]; exact oneRow _ _ j
theorem iblk9 (j : Fin 1024) : iblk m c 9 t (ix2 0 j) = (args m c).su (ix1 j) := by
  have e : iblk m c 9 t (ix2 0 j) = V m c main_v16 (ix2 0 j) := by blk_ext [iblk, (at9 t).1, (at9 t).2]
  rw [e, (V_rows m c).2.2.2.2.1]; exact oneRow _ _ j
theorem iblk11 (j : Fin 4096) : iblk m c 11 t (ix2 0 j) = (args m c).wsu (ix1 j) := by
  have e : iblk m c 11 t (ix2 0 j) = V m c main_v17 (ix2 0 j) := by blk_ext [iblk, (at11 t).1, (at11 t).2]
  rw [e, (V_rows m c).2.2.2.2.2.1]; exact oneRow _ _ j
theorem iblk12 (j : Fin 4096) : iblk m c 12 t (ix2 0 j) = (args m c).bu (ix1 j) := by
  have e : iblk m c 12 t (ix2 0 j) = V m c main_v18 (ix2 0 j) := by blk_ext [iblk, (at12 t).1, (at12 t).2]
  rw [e, (V_rows m c).2.2.2.2.2.2.1]; exact oneRow _ _ j
theorem iblk14 (j : Fin 1024) : iblk m c 14 t (ix2 0 j) = (args m c).wsd (ix1 j) := by
  have e : iblk m c 14 t (ix2 0 j) = V m c main_v19 (ix2 0 j) := by blk_ext [iblk, (at14 t).1, (at14 t).2]
  rw [e, (V_rows m c).2.2.2.2.2.2.2.1]; exact oneRow _ _ j
theorem iblk15 (j : Fin 1024) : iblk m c 15 t (ix2 0 j) = (args m c).bd (ix1 j) := by
  have e : iblk m c 15 t (ix2 0 j) = V m c main_v20 (ix2 0 j) := by blk_ext [iblk, (at15 t).1, (at15 t).2]
  rw [e, (V_rows m c).2.2.2.2.2.2.2.2.1]; exact oneRow _ _ j
theorem iblk16 (j : Fin 1024) : iblk m c 16 t (ix2 0 j) = (args m c).g2 (ix1 j) := by
  have e : iblk m c 16 t (ix2 0 j) = V m c main_v21 (ix2 0 j) := by blk_ext [iblk, (at16 t).1, (at16 t).2]
  rw [e, (V_rows m c).2.2.2.2.2.2.2.2.2.1]; exact oneRow _ _ j
theorem iblk17 (j : Fin 1024) : iblk m c 17 t (ix2 0 j) = (args m c).b2 (ix1 j) := by
  have e : iblk m c 17 t (ix2 0 j) = V m c main_v22 (ix2 0 j) := by blk_ext [iblk, (at17 t).1, (at17 t).2]
  rw [e, (V_rows m c).2.2.2.2.2.2.2.2.2.2.1]; exact oneRow _ _ j
theorem iblk18 (j : Fin 1024) : iblk m c 18 t (ix2 0 j) = (args m c).wcl (ix1 j) := by
  have e : iblk m c 18 t (ix2 0 j) = V m c main_v23 (ix2 0 j) := by blk_ext [iblk, (at18 t).1, (at18 t).2]
  rw [e, (V_rows m c).2.2.2.2.2.2.2.2.2.2.2]; exact oneRow _ _ j

/-- Row `r` of block `t` among the padded rows. -/
def rowOf (r : Fin 256) : Fin 10496 := ⟨t.val * 256 + r.val, by have := t.isLt; have : cfg0.N = 41 := N_0; omega⟩

theorem iblk1 (r : Fin 256) (j : Fin 1024) : iblk m c 1 t (ix2 r j) = V m c main_v8 (ix2 (rowOf t r) j) := by
  unfold rowOf; blk_ext [iblk, (at1 t).1, (at1 t).2]
theorem iblk2 (r : Fin 256) : iblk m c 2 t (ix2 0 r) = V m c main_v10 (ix2 0 (rowOf t r)) := by
  unfold rowOf; blk_ext [iblk, (at2 t).1, (at2 t).2]
theorem iblk3 (r : Fin 256) (j : Fin 1024) : iblk m c 3 t (ix2 r j) = V m c main_v11 (ix2 (rowOf t r) j) := by
  unfold rowOf; blk_ext [iblk, (at3 t).1, (at3 t).2]
theorem iblk0 (p : Fin 128) : iblk m c 0 t (ix2 0 p) = V m c main_v7 (ix2 0 p) := by
  blk_ext [iblk, (at0 t).1, (at0 t).2]

/-- A padded row's inputs. -/
def tokP (n : Fin 10496) : Tok where
  c k := num (V m c main_v8 (ix2 n k))
  s := V m c main_v10 (ix2 0 n)
  x k := V m c main_v11 (ix2 n k)

/-- A padded row inside the tokens is the token. -/
theorem tokP_eq (n : Fin 10496) (h : n.val < 10415) : tokP m c n = (args m c).tok ⟨n.val, h⟩ := by
  unfold tokP Args.tok; simp only [row_cc m c n h, row_cs m c n h, row_x m c n h]

/-- The converted weights, which the first point stores and all points read. -/
def xW0 : Vec Ideal S1024x1024 .bf16 := k0_pay1 (iblk m c 4 t)
def xW1 : Vec Ideal S1024x4096 .bf16 := k0_pay2 (iblk m c 10 t)
def xW2 : Vec Ideal S4096x1024 .bf16 := k0_pay3 (iblk m c 13 t)

theorem xW0_eq : xW0 m c t = fun i => num ((args m c).wo i) := by
  funext i; idx_vars i; unfold xW0; rw [← iblk4 m c t]; pointwise [k0_pay1]; rfl
theorem xW1_eq : xW1 m c t = fun i => num ((args m c).wu i) := by
  funext i; idx_vars i; unfold xW1; rw [← iblk10 m c t]; pointwise [k0_pay2]; rfl
theorem xW2_eq : xW2 m c t = fun i => num ((args m c).wd i) := by
  funext i; idx_vars i; unfold xW2; rw [← iblk13 m c t]; pointwise [k0_pay3]; rfl

theorem wts_pin : Tower.wts (pinA m c t) = (args m c).wts := by
  unfold Tower.wts Args.wts pinA pin
  have e0 := xW0_eq m c t; have e1 := xW1_eq m c t; have e2 := xW2_eq m c t
  unfold xW0 at e0; unfold xW1 at e1; unfold xW2 at e2
  simp only [e0, e1, e2, iblk5, iblk6, iblk7, iblk8, iblk9, iblk11, iblk12, iblk14, iblk15, iblk16, iblk17]

theorem tok_pin (r : Fin 256) : Tower.tok (pinA m c t) r = tokP m c (rowOf t r) := by
  unfold Tower.tok tokP pinA pin
  simp only [iblk1, iblk2, iblk3]

end Cert.KernelIdeal.Gen

end
-- ==== Proof.Points.lean ====
module

public import proofs.«01_k».proof.Proof.PointB
public import proofs.«01_k».proof.Proof.Inputs

/-! What every grid point leaves in the output blocks, row by row, as the mathematics of that row's token. The converted weights, which the
    first point leaves in the scratch buffers, are the same at every later point. -/

@[expose] public section

set_option maxRecDepth 16384

noncomputable section

namespace Cert.KernelIdeal.Gen

open Idealize.ShloMosaic Idealize.ShloMosaic.TcCoe Idealize.ShloMosaic.Tactic Cert.KernelIdeal Cert.Ffn

variable (m : (ℓ : Loc nD τ sig) → Buf (Elt Ideal) ℓ) (c : Dev nD) (t : Fin cfg0.N)

/-- Every point leaves the converted weights in the scratch buffers. -/
theorem scratch_eq : ∀ (n : ℕ) (hn : n < cfg0.N),
    (outsAt0 m c n hn).2.2.2.2.2.2.2 = (xW0 m c ⟨n, hn⟩, xW1 m c ⟨n, hn⟩, xW2 m c ⟨n, hn⟩)
  | 0, hn => by
    have h : (⟨0, hn⟩ : Fin cfg0.N).val % 41 = 0 := rfl
    have e := outsAt0_A m c ⟨0, hn⟩ h
    rw [e]
    exact congrArg₂ Prod.mk (sout0_A_0_eq m c _ h) (congrArg₂ Prod.mk (sout0_A_1_eq m c _ h) (sout0_A_2_eq m c _ h))
  | n + 1, hn => by
    have h0 : ¬(⟨n + 1, hn⟩ : Fin cfg0.N).val % 41 = 0 := by have : cfg0.N = 41 := N_0; simp only; omega
    have e := outsAt0_B m c ⟨n + 1, hn⟩ h0
    have ih := scratch_eq n (Nat.lt_of_succ_lt hn)
    rw [e]
    refine Eq.trans (b := (outsAt0 m c n (Nat.lt_of_succ_lt hn)).2.2.2.2.2.2.2) rfl (ih.trans ?_)
    simp only [xW0_eq, xW1_eq, xW2_eq]

/-- What a point's body finds in the score block: zeros at the first point, what the point before left afterwards. -/
def accIn : Vec Ideal S1x128 .f32 :=
  if t.val % 41 = 0 then k0_pay4 (F := Ideal) else (outsAt0 m c (t.val - 1) (Nat.lt_of_le_of_lt (Nat.sub_le _ _) t.isLt)).2.2.1

/-- The output blocks after any point. -/
theorem outs_eq :
    (outsAt0 m c t.val t.isLt).1 = Tower.v10 (pinA m c t).raw
    ∧ (outsAt0 m c t.val t.isLt).2.1 = Tower.v82 (pinA m c t).raw (Tower.readBack (pinA m c t).raw)
    ∧ (outsAt0 m c t.val t.isLt).2.2.1 = Tower.v83 (pinA m c t).raw (Tower.readBack (pinA m c t).raw)
        (BitVec.ofNat 32 (grid0.coords t 0).val) (iblk m c 18 t) (accIn m c t) (strow m c t)
    ∧ (outsAt0 m c t.val t.isLt).2.2.2.1 = Tower.v14 (pinA m c t).raw
    ∧ (outsAt0 m c t.val t.isLt).2.2.2.2.1 = k0_pay15 (Tower.v68 (pinA m c t).raw)
    ∧ (outsAt0 m c t.val t.isLt).2.2.2.2.2.1 = View.canon (Tower.tiles8 (pinA m c t).raw)
    ∧ (outsAt0 m c t.val t.isLt).2.2.2.2.2.2.1 = Tower.v46 (pinA m c t).raw := by
  by_cases h0 : t.val % 41 = 0
  · rw [outsAt0_A m c t h0]; dsimp only
    unfold accIn
    rw [if_pos h0, out0_A_19_eq, out0_A_20_eq, out0_A_21_eq, out0_A_22_eq, out0_A_23_eq, out0_A_24_eq, out0_A_25_eq, rawA_eq]
    exact ⟨rfl, rfl, rfl, rfl, rfl, rfl, rfl⟩
  · have hs := scratch_eq m c (t.val - 1) (Nat.lt_of_le_of_lt (Nat.sub_le _ _) t.isLt)
    rw [outsAt0_B m c t h0]; dsimp only
    unfold accIn
    rw [if_neg h0]
    generalize outsAt0 m c (t.val - 1) (Nat.lt_of_le_of_lt (Nat.sub_le _ _) t.isLt) = q at hs
    obtain ⟨q1, q2, q3, q4, q5, q6, q7, q8, q9, q10⟩ := q
    have e : ∀ t' : Fin cfg0.N, (xW0 m c t', xW1 m c t', xW2 m c t') = (xW0 m c t, xW1 m c t, xW2 m c t) := fun t' => by
      simp only [xW0_eq, xW1_eq, xW2_eq]
    rw [e] at hs
    simp only [Prod.mk.injEq] at hs
    obtain ⟨e0, e1, e2⟩ := hs
    subst e0 e1 e2
    rw [out0_B_19_eq, out0_B_20_eq, out0_B_21_eq, out0_B_22_eq, out0_B_23_eq, out0_B_24_eq, out0_B_25_eq, rawB_eq]
    exact ⟨rfl, rfl, rfl, rfl, rfl, rfl, rfl⟩

/-! ## Row by row -/

variable (r : Fin 256)

theorem row_h1 (j : Fin 1024) : (outsAt0 m c t.val t.isLt).1 (ix2 r j) = h1 (args m c).wts (tokP m c (rowOf t r)) j := by
  rw [(outs_eq m c t).1, Tower.v10_eq, wts_pin, tok_pin]

variable (hsu : ∀ j : Fin 1024, (args m c).su (ix1 j) ≠ 0)
include hsu

theorem su_pin : ∀ j : Fin 1024, (pinA m c t).su (ix2 0 j) ≠ 0 := fun j => by
  rw [show (pinA m c t).su (ix2 0 j) = (args m c).su (ix1 j) from iblk9 m c t j]; exact hsu j

theorem row_y (j : Fin 1024) : (outsAt0 m c t.val t.isLt).2.1 (ix2 r j) = yy (args m c).wts (tokP m c (rowOf t r)) j := by
  rw [(outs_eq m c t).2.1, Tower.readBack_eq _ (su_pin m c t hsu), Tower.v82_eq _ _ _ (su_pin m c t hsu), wts_pin, tok_pin]

theorem row_hc (j : Fin 1024) :
    (outsAt0 m c t.val t.isLt).2.2.2.1 (ix2 r j) = Ideal.fptosi 8 (hc (args m c).wts (tokP m c (rowOf t r)) j) := by
  rw [(outs_eq m c t).2.2.2.1, Tower.v14_eq _ _ _ (su_pin m c t hsu), wts_pin, tok_pin]

theorem row_hs : (outsAt0 m c t.val t.isLt).2.2.2.2.1 (ix2 0 r) = hs (args m c).wts (tokP m c (rowOf t r)) := by
  rw [(outs_eq m c t).2.2.2.2.1, Tower.v15_eq _ _ (su_pin m c t hsu), wts_pin, tok_pin]

theorem row_gc (j : Fin 4096) :
    (outsAt0 m c t.val t.isLt).2.2.2.2.2.1 (ix2 r j) = Ideal.fptosi 8 (gc (args m c).wts (tokP m c (rowOf t r)) j) := by
  rw [(outs_eq m c t).2.2.2.2.2.1, Tower.canon8_eq _ (su_pin m c t hsu)]
  show Ideal.fptosi 8 (gc (Tower.wts (pinA m c t)) (Tower.tok (pinA m c t) r) j) = _
  rw [wts_pin, tok_pin]

theorem row_gs : (outsAt0 m c t.val t.isLt).2.2.2.2.2.2.1 (ix2 0 r) = gs (args m c).wts (tokP m c (rowOf t r)) := by
  rw [(outs_eq m c t).2.2.2.2.2.2, Tower.v46_eq _ _ (su_pin m c t hsu), wts_pin, tok_pin]

omit hsu in
theorem coords_eq : ∀ t : Fin cfg0.N, (grid0.coords t 0).val = t.val := by decide +kernel

omit hsu in
theorem strow_eq (p : Fin 48) : strow m c t (ix2 0 (p.castLE (by decide))) = (args m c).cu (ix1 (p.castLE (by decide))) := by
  rw [← V_cul, ← iblk0 m c t]
  unfold strow
  show iblk m c 0 t _ = _
  refine congrArg _ (funext fun a => ?_)
  fin_cases a <;> exact Fin.ext (by simp [ix2])

/-- The score block after a point: what was there, and this block's tokens that open a sequence. -/
theorem score_step (p : Fin 48) : (outsAt0 m c t.val t.isLt).2.2.1 (ix2 0 (p.castLE (by decide)))
    = accIn m c t (ix2 0 (p.castLE (by decide)))
      + Block.laneAdd (BitVec.ofNat 32 t.val) (fun r => Block.scRow (yy (args m c).wts (tokP m c (rowOf t r))) (fun k => (args m c).wcl (ix1 k)))
          ((args m c).cu (ix1 (p.castLE (by decide)))) := by
  rw [(outs_eq m c t).2.2.1, Tower.readBack_eq _ (su_pin m c t hsu), Tower.v83_eq _ (su_pin m c t hsu), wts_pin, strow_eq, coords_eq]
  simp only [tok_pin, iblk18]

end Cert.KernelIdeal.Gen

end
-- ==== Proof.Arrays.lean ====
module

public import proofs.«01_k».proof.Proof.Points

/-! What the region's result arrays hold at the end, over the padded rows. -/

@[expose] public section

set_option maxRecDepth 16384

noncomputable section

namespace Cert.KernelIdeal.Gen

open Idealize.ShloMosaic Idealize.ShloMosaic.TcCoe Idealize.ShloMosaic.Tactic Cert.KernelIdeal Cert.Ffn

variable (m : (ℓ : Loc nD τ sig) → Buf (Elt Ideal) ℓ) (c : Dev nD) (t : Fin cfg0.N)

theorem at19 : ∀ t : Fin cfg0.N, win0_19.index t 0 = t.val ∧ win0_19.index t 1 = 0 := by decide +kernel
theorem at20 : ∀ t : Fin cfg0.N, win0_20.index t 0 = t.val ∧ win0_20.index t 1 = 0 := by decide +kernel
theorem at21 : ∀ t : Fin cfg0.N, win0_21.index t 0 = 0 ∧ win0_21.index t 1 = 0 := by decide +kernel
theorem at22 : ∀ t : Fin cfg0.N, win0_22.index t 0 = t.val ∧ win0_22.index t 1 = 0 := by decide +kernel
theorem at23 : ∀ t : Fin cfg0.N, win0_23.index t 0 = 0 ∧ win0_23.index t 1 = t.val := by decide +kernel
theorem at24 : ∀ t : Fin cfg0.N, win0_24.index t 0 = t.val ∧ win0_24.index t 1 = 0 := by decide +kernel
theorem at25 : ∀ t : Fin cfg0.N, win0_25.index t 0 = 0 ∧ win0_25.index t 1 = t.val := by decide +kernel

/-- The first layer norm over the padded rows. -/
def gH1 : Vec Ideal S10496x1024 .bf16 := fun i => h1 (args m c).wts (tokP m c (i 0)) (i 1)

/-- The layer's output over the padded rows. -/
def gY : Vec Ideal S10496x1024 .bf16 := fun i => yy (args m c).wts (tokP m c (i 0)) (i 1)

/-- The codes of the smoothed rows over the padded rows. -/
def gHc : Vec Ideal S10496x1024 .i8 := fun i => Ideal.fptosi 8 (hc (args m c).wts (tokP m c (i 0)) (i 1))

/-- The scales of the smoothed rows over the padded rows. -/
def gHs : Vec Ideal S1x10496 .f32 := fun i => hs (args m c).wts (tokP m c (i 1))

/-- The codes of the hidden rows over the padded rows. -/
def gGc : Vec Ideal S10496x4096 .i8 := fun i => Ideal.fptosi 8 (gc (args m c).wts (tokP m c (i 0)) (i 1))

/-- The scales of the hidden rows over the padded rows. -/
def gGs : Vec Ideal S1x10496 .f32 := fun i => gs (args m c).wts (tokP m c (i 1))

variable (hsu : ∀ j : Fin 1024, (args m c).su (ix1 j) ≠ 0)

theorem arr19 : (dats m 0 c).arrAt 19 cfg0.N = gH1 m c := by
  refine (dats m 0 c).arrAt_eq_of_covers 19 _ (by decide +kernel) fun t hf y => ?_
  blk_simp; rw [after0_19]
  idx_vars y
  refine (row_h1 m c t _ _).trans ?_
  show gH1 m c (ix2 _ _) = gH1 m c _
  blk_ext [(at19 t).1, (at19 t).2]

include hsu in
theorem arr20 : (dats m 0 c).arrAt 20 cfg0.N = gY m c := by
  refine (dats m 0 c).arrAt_eq_of_covers 20 _ (by decide +kernel) fun t hf y => ?_
  blk_simp; rw [after0_20]
  idx_vars y
  refine (row_y m c t _ hsu _).trans ?_
  show gY m c (ix2 _ _) = gY m c _
  blk_ext [(at20 t).1, (at20 t).2]

include hsu in
theorem arr22 : (dats m 0 c).arrAt 22 cfg0.N = gHc m c := by
  refine (dats m 0 c).arrAt_eq_of_covers 22 _ (by decide +kernel) fun t hf y => ?_
  blk_simp; rw [after0_22]
  idx_vars y
  refine (row_hc m c t _ hsu _).trans ?_
  show gHc m c (ix2 _ _) = gHc m c _
  blk_ext [(at22 t).1, (at22 t).2]

include hsu in
theorem arr23 : (dats m 0 c).arrAt 23 cfg0.N = gHs m c := by
  refine (dats m 0 c).arrAt_eq_of_covers 23 _ (by decide +kernel) fun t hf y => ?_
  blk_simp; rw [after0_23]
  obtain ⟨y1, rfl⟩ : ∃ y1, y = ix2 0 y1 := ⟨y 1, by idx_vars y; congr 1; exact Subsingleton.elim _ _⟩
  refine (row_hs m c t _ hsu).trans ?_
  show gHs m c (ix2 0 _) = gHs m c _
  blk_ext [(at23 t).1, (at23 t).2]

include hsu in
theorem arr24 : (dats m 0 c).arrAt 24 cfg0.N = gGc m c := by
  refine (dats m 0 c).arrAt_eq_of_covers 24 _ (by decide +kernel) fun t hf y => ?_
  blk_simp; rw [after0_24]
  idx_vars y
  refine (row_gc m c t _ hsu _).trans ?_
  show gGc m c (ix2 _ _) = gGc m c _
  blk_ext [(at24 t).1, (at24 t).2]

include hsu in
theorem arr25 : (dats m 0 c).arrAt 25 cfg0.N = gGs m c := by
  refine (dats m 0 c).arrAt_eq_of_covers 25 _ (by decide +kernel) fun t hf y => ?_
  blk_simp; rw [after0_25]
  obtain ⟨y1, rfl⟩ : ∃ y1, y = ix2 0 y1 := ⟨y 1, by idx_vars y; congr 1; exact Subsingleton.elim _ _⟩
  refine (row_gs m c t _ hsu).trans ?_
  show gGs m c (ix2 0 _) = gGs m c _
  blk_ext [(at25 t).1, (at25 t).2]

/-! ## The scores -/

/-- What a block adds to sequence `p`'s score. -/
def blockAdd (p : Fin 48) (n : ℕ) : EReal :=
  if hn : n < cfg0.N then
    Block.laneAdd (BitVec.ofNat 32 n) (fun r => Block.scRow (yy (args m c).wts (tokP m c (rowOf ⟨n, hn⟩ r))) (fun k => (args m c).wcl (ix1 k)))
      ((args m c).cu (ix1 (p.castLE (by decide))))
  else 0

include hsu in
/-- The score block after point `n` is the sum over the blocks so far. -/
theorem score_sum (p : Fin 48) : ∀ (n : ℕ) (hn : n < cfg0.N),
    (outsAt0 m c n hn).2.2.1 (ix2 0 (p.castLE (by decide))) = ∑ i ∈ Finset.range (n + 1), blockAdd m c p i
  | 0, hn => by
    rw [score_step m c ⟨0, hn⟩ hsu p, Finset.sum_range_one]
    unfold accIn blockAdd
    rw [if_pos (by rfl), dif_pos hn, Block.pay4, zero_add]
  | n + 1, hn => by
    have h0 : ¬(n + 1) % 41 = 0 := by have : cfg0.N = 41 := N_0; omega
    rw [score_step m c ⟨n + 1, hn⟩ hsu p, Finset.sum_range_succ, ← score_sum p n (Nat.lt_of_succ_lt hn)]
    unfold accIn blockAdd
    rw [if_neg h0, dif_pos hn]
    rfl

/-- A block adds the score of the row whose number is the start, if that row is its own. -/
theorem laneAdd_eq (n : ℕ) (hn : n < 41) (sc : Fin 256 → EReal) (st : BitVec 32) :
    Block.laneAdd (BitVec.ofNat 32 n) sc st = ∑ r : Fin 256, if n * 256 + r.val = st.toNat then sc r else 0 := by
  unfold Block.laneAdd
  refine Finset.sum_congr rfl fun r _ => ?_
  have e : (IntOp.addi (Scalar.muli (BitVec.ofNat 32 n) 256#32) (BitVec.ofNat 32 r.val) = st) ↔ n * 256 + r.val = st.toNat := by
    rw [← BitVec.toNat_inj]
    have := r.isLt
    show (BitVec.ofNat 32 n * 256#32 + BitVec.ofNat 32 r.val).toNat = _ ↔ _
    rw [BitVec.toNat_add, BitVec.toNat_mul, BitVec.toNat_ofNat, BitVec.toNat_ofNat, BitVec.toNat_ofNat]
    omega
  by_cases h : n * 256 + r.val = st.toNat
  · rw [if_pos h]; simp [Scalar.select, IntOp.cmpi, e.mpr h]
  · rw [if_neg h]; simp only [Scalar.select, IntOp.cmpi, beq_eq_false_iff_ne.mpr (mt e.mp h)]; rfl

variable (hr : (args m c).InRange)

/-- All the blocks together add the score of the token at the start. -/
theorem score_all (p : Fin 48) : ∑ i ∈ Finset.range 41, blockAdd m c p i = (args m c).rScore hr (ix1 p) := by
  have hN : cfg0.N = 41 := N_0
  have hs := hr p
  have hq : ((args m c).cu (ix1 (p.castLE (by decide)))).toNat < 10415 := hs
  have hadd : ∀ i (hi : i < 41), blockAdd m c p i = ∑ r : Fin 256,
      if i * 256 + r.val = ((args m c).cu (ix1 (p.castLE (by decide)))).toNat
      then Block.scRow (yy (args m c).wts (tokP m c (rowOf ⟨i, by omega⟩ r))) (fun k => (args m c).wcl (ix1 k)) else 0 := fun i hi => by
    unfold blockAdd; rw [dif_pos (by omega), laneAdd_eq _ hi]
  generalize hst : ((args m c).cu (ix1 (p.castLE (by decide)))).toNat = st at hadd hq
  have hlt : st / 256 < 41 := by omega
  rw [Finset.sum_eq_single (st / 256)]
  · rw [hadd _ hlt, Finset.sum_eq_single (⟨st % 256, by omega⟩ : Fin 256)]
    · rw [if_pos (by show st / 256 * 256 + st % 256 = st; omega), tokP_eq m c _ (by show st / 256 * 256 + st % 256 < _; omega)]
      have e : ∀ h', (args m c).tok ⟨st / 256 * 256 + st % 256, h'⟩ = (args m c).tok ((args m c).start hr p) := fun _ =>
        congrArg _ (Fin.ext ((by omega : st / 256 * 256 + st % 256 = st).trans hst.symm))
      exact Finset.sum_congr rfl fun k _ => congrArg (fun T => yy (args m c).wts T k * (args m c).wcl (ix1 k)) (e _)
    · intro r _ hne
      rw [if_neg fun h => hne (Fin.ext (by show r.val = st % 256; have := r.isLt; omega))]
    · exact fun h => absurd (Finset.mem_univ _) h
  · intro i hi hne
    rw [hadd i (Finset.mem_range.mp hi)]
    refine Finset.sum_eq_zero fun r _ => if_neg fun h => hne ?_
    have := r.isLt; omega
  · exact fun h => absurd (Finset.mem_range.mpr hlt) h

include hsu in
/-- The score array at the sequences' lanes. -/
theorem arr21 (p : Fin 48) : (dats m 0 c).arrAt 21 cfg0.N (ix2 0 (p.castLE (by decide))) = (args m c).rScore hr (ix1 p) := by
  have hN : cfg0.N = 41 := N_0
  have e : (dats m 0 c).arrAt 21 cfg0.N = (outsAt0 m c 40 (by omega)).2.2.1 := by
    refine (dats m 0 c).arrAt_eq_of_covers 21 _ (by decide +kernel) fun t hf y => ?_
    have ht : t.val = 40 := by
      have := (flush0_21 t).mp hf; have := t.isLt; have : cfg0.grid.N = 41 := hN; omega
    have hall : ∀ (n : ℕ) (hn : n < cfg0.N), n = 40 → outsAt0 m c n hn = outsAt0 m c 40 (by omega) := by rintro _ _ rfl; rfl
    blk_simp; rw [after0_21, hall t.val t.isLt ht]
    refine congrArg (outsAt0 m c 40 _).2.2.1 ?_
    blk_ext [(at21 t).1, (at21 t).2]
  rw [e, score_sum m c hsu p 40, score_all m c hr]

end Cert.KernelIdeal.Gen

end
-- ==== Proof.Results.lean ====
module

public import proofs.«01_k».proof.Proof.Arrays
public import proofs.«01_k».proof.Proof.KernelIdealRun

/-! The host's slices of the region's arrays are the results of the layer. -/

@[expose] public section

set_option maxRecDepth 16384

noncomputable section

namespace Cert.KernelIdeal.Gen

open Idealize.ShloMosaic Idealize.ShloMosaic.TcCoe Idealize.ShloMosaic.Tactic Cert.KernelIdeal Cert.Ffn

variable (m : (ℓ : Loc nD τ sig) → Buf (Elt Ideal) ℓ) (c : Dev nD)

/-- The first 10415 rows of an array of 10496. -/
theorem take_rows {q : ℕ} {β : Type} (z : (⟨2, ![10496, q]⟩ : Shape).Idx → β)
    (h : (⟨2, ![10496, q]⟩ : Shape).Slices ![0, 0] (⟨2, ![10415, q]⟩ : Shape)) (i : Fin 10415) (j : Fin q) :
    extractStridedSlice (⟨2, ![10415, q]⟩ : Shape) ![0, 0] z h (ix2 i j) = z (ix2 (i.castLE (by decide)) j) := by
  refine congrArg z (funext fun a => Fin.ext ?_)
  fin_cases a <;> simp [ix2]

/-- The first entries of a row, as a vector. -/
theorem take_cols {n N : ℕ} (hN : n ≤ N) {β : Type} (z : (⟨2, ![1, N]⟩ : Shape).Idx → β)
    (h : (⟨2, ![1, N]⟩ : Shape).Slices ![0, 0] (⟨2, ![1, n]⟩ : Shape)) (hc : (⟨2, ![1, n]⟩ : Shape).ShapeCasts (⟨1, ![n]⟩ : Shape)) (i : Fin n) :
    shapeCast (⟨1, ![n]⟩ : Shape) (extractStridedSlice (⟨2, ![1, n]⟩ : Shape) ![0, 0] z h) hc (ix1 i) = z (ix2 0 (i.castLE hN)) := by
  refine (shapeCast_dropUnit_apply ![n] _ hc (ix1 i)).trans (congrArg z (funext fun a => Fin.ext ?_))
  fin_cases a
  · simp [ix2]
  · exact Nat.zero_add _

/-- A token's row among the padded rows. -/
theorem tokP_row (i : Fin 10415) : tokP m c (i.castLE (by decide)) = (args m c).tok i := tokP_eq m c _ i.isLt

theorem res_h1 : extractStridedSlice S10415x1024 ![0, 0] (Value.reg_main_v24_0 m c) slices_S10496x1024_S10415x1024_0_0 = (args m c).rH1 := by
  rw [Value.reg_main_v24_0, arr19]
  funext i; idx_vars i
  exact (take_rows _ _ _ _).trans (congrArg (fun T => h1 (args m c).wts T i1) (tokP_row m c i0))

variable (hsu : ∀ j : Fin 1024, (args m c).su (ix1 j) ≠ 0)
include hsu

theorem res_y : extractStridedSlice S10415x1024 ![0, 0] (Value.reg_main_v24_1 m c) slices_S10496x1024_S10415x1024_0_0 = (args m c).rY := by
  rw [Value.reg_main_v24_1, arr20 m c hsu]
  funext i; idx_vars i
  exact (take_rows _ _ _ _).trans (congrArg (fun T => yy (args m c).wts T i1) (tokP_row m c i0))

theorem res_hc : extractStridedSlice S10415x1024 ![0, 0] (Value.reg_main_v24_3 m c) slices_S10496x1024_S10415x1024_0_0 = (args m c).rHc := by
  rw [Value.reg_main_v24_3, arr22 m c hsu]
  funext i; idx_vars i
  exact (take_rows _ _ _ _).trans (congrArg (fun T => Ideal.fptosi 8 (hc (args m c).wts T i1)) (tokP_row m c i0))

theorem res_gc : extractStridedSlice S10415x4096 ![0, 0] (Value.reg_main_v24_5 m c) slices_S10496x4096_S10415x4096_0_0 = (args m c).rGc := by
  rw [Value.reg_main_v24_5, arr24 m c hsu]
  funext i; idx_vars i
  exact (take_rows _ _ _ _).trans (congrArg (fun T => Ideal.fptosi 8 (gc (args m c).wts T i1)) (tokP_row m c i0))

theorem res_hs : shapeCast S10415 (extractStridedSlice S1x10415 ![0, 0] (Value.reg_main_v24_4 m c) slices_S1x10496_S1x10415_0_0) shapeCasts_S1x10415_S10415
    = (args m c).rHs := by
  rw [Value.reg_main_v24_4, arr23 m c hsu]
  funext i; idx_vars i
  exact (take_cols (by decide) _ _ _ _).trans (congrArg (fun T => hs (args m c).wts T) (tokP_row m c i0))

theorem res_gs : shapeCast S10415 (extractStridedSlice S1x10415 ![0, 0] (Value.reg_main_v24_6 m c) slices_S1x10496_S1x10415_0_0) shapeCasts_S1x10415_S10415
    = (args m c).rGs := by
  rw [Value.reg_main_v24_6, arr25 m c hsu]
  funext i; idx_vars i
  exact (take_cols (by decide) _ _ _ _).trans (congrArg (fun T => gs (args m c).wts T) (tokP_row m c i0))

theorem res_score (hr : (args m c).InRange) :
    shapeCast S48 (extractStridedSlice S1x48 ![0, 0] (Value.reg_main_v24_2 m c) slices_S1x128_S1x48_0_0) shapeCasts_S1x48_S48 = (args m c).rScore hr := by
  rw [Value.reg_main_v24_2]
  funext i; idx_vars i
  exact (take_cols (by decide) _ _ _ _).trans (arr21 m c hsu hr i0)

end Cert.KernelIdeal.Gen

end
-- ==== Proof.RefBlock.lean ====
/-
  What the reference's body computes, row by row: each payload of the body read at an index, as the row functions of
  `Row.lean`.
-/
module

public import proofs.«01_k».proof.Proof.Gen.ReferenceIdeal.Skeleton
public import proofs.«01_k».proof.Proof.Row
public import Idealize.ShloMosaic.Lib.Pointwise

@[expose] public section

set_option maxRecDepth 16384

noncomputable section

namespace Cert.Ffn.RefBlock

open Idealize.ShloMosaic Cert.ReferenceIdeal Cert.ReferenceIdeal.Gen

section A
variable (v0 : Vec Ideal S10415x1024 .bf16) (v2 : Vec Ideal S10415x1024 .i8) (v3 : Vec Ideal S10415 .f32)
  (v4 : Vec Ideal S1024x1024 .i8) (v5 v6 v20 v21 : Vec Ideal S1024 .f32) (n : Fin 10415) (j : Fin 1024)

/-- The projected row with its residual. -/
def attRow (k : Fin 1024) : EReal :=
  lin (fun i => num (v2 (ix2 n i))) (v3 (ix1 n)) (fun i j => num (v4 (ix2 i j))) (fun j => v5 (ix1 j)) (fun j => v6 (ix1 j)) k
    + v0 (ix2 n k)

theorem pay4 : k0_pay4 v0 v2 v3 v4 v5 v6 v20 (ix2 n j)
    = cen (attRow v0 v2 v3 v4 v5 v6 n) j
      * Ideal.rsqrt (Ideal.div (∑ k : Fin 1024, cen (attRow v0 v2 v3 v4 v5 v6 n) k * cen (attRow v0 v2 v3 v4 v5 v6 n) k) cLen + cEps)
      * v20 (ix1 j) := by
  pointwise [k0_pay4]; rfl

theorem pay5 : k0_pay5 v21 (ix2 n j) = v21 (ix1 j) := by
  pointwise [k0_pay5]

end A

/-- The scales, from the rows' greatest magnitudes `q`. -/
theorem scaleV (q : FVec Ideal S10415 .f32) (n : Fin 10415) :
    select (cmpf .oeq q (broadcast S10415 (Scalar.ofBits .f32 0x00000000#32)))
      (broadcast S10415 (Scalar.ofBits .f32 0x3F800000#32))
      (divf q (broadcast S10415 (Scalar.ofBits .f32 0x42FE0000#32))) (ix1 n) = scaleOf (q (ix1 n)) := by
  pointwise; rfl

section Quant1024
variable (x : FVec Ideal S10415x1024 .f32) (n : Fin 10415) (j : Fin 1024)

/-- A row's greatest magnitude. -/
theorem maxV1024 : multiReduction .maximumf [1] S10415 (absf x) 0xFF800000#32 reduces_S10415x1024_S10415 (.inl rfl) rfl (ix1 n)
    = amax fun j : Fin 1024 => x (ix2 n j) := by
  pointwise; rfl

/-- The codes at the scales `q`. -/
theorem codeV1024 (q : FVec Ideal S10415 .f32) :
    fptosi 8 (minimumf (broadcast S10415x1024 (Scalar.ofBits .f32 0x42FE0000#32))
      (maximumf (broadcast S10415x1024 (Scalar.ofBits .f32 0xC2FE0000#32))
        (roundeven (divf x (broadcastTo S10415x1024 (shapeCast S10415x1 q shapeCasts_S10415_S10415x1) broadcasts_S10415x1_S10415x1024)))))
      (ix2 n j)
    = Ideal.fptosi 8 (codeOf (x (ix2 n j)) (q (ix1 n))) := by
  pointwise; rfl
end Quant1024

section Quant4096
variable (x : FVec Ideal S10415x4096 .f32) (n : Fin 10415) (j : Fin 4096)

/-- A row's greatest magnitude. -/
theorem maxV4096 : multiReduction .maximumf [1] S10415 (absf x) 0xFF800000#32 reduces_S10415x4096_S10415 (.inl rfl) rfl (ix1 n)
    = amax fun j : Fin 4096 => x (ix2 n j) := by
  pointwise; rfl

/-- The codes at the scales `q`. -/
theorem codeV4096 (q : FVec Ideal S10415 .f32) :
    fptosi 8 (minimumf (broadcast S10415x4096 (Scalar.ofBits .f32 0x42FE0000#32))
      (maximumf (broadcast S10415x4096 (Scalar.ofBits .f32 0xC2FE0000#32))
        (roundeven (divf x (broadcastTo S10415x4096 (shapeCast S10415x1 q shapeCasts_S10415_S10415x1) broadcasts_S10415x1_S10415x4096)))))
      (ix2 n j)
    = Ideal.fptosi 8 (codeOf (x (ix2 n j)) (q (ix1 n))) := by
  pointwise; rfl
end Quant4096

section B
variable (v40 v42 v43 : FVec Ideal S10415x1024 .f32) (v44 : Vec Ideal S1024 .f32) (n : Fin 10415) (j : Fin 1024)

theorem pay6 : k0_pay6 v40 v42 (ix2 n j) = v40 (ix2 n j) + v42 (ix2 n j) := by
  pointwise [k0_pay6]

theorem pay2 : k0_pay2 v43 (ix2 n j) = v43 (ix2 n j) := by
  pointwise [k0_pay2]

theorem pay7 : k0_pay7 v40 v42 v44 (ix2 n j) = Ideal.div (v40 (ix2 n j) + v42 (ix2 n j)) (v44 (ix1 j)) := by
  pointwise [k0_pay7, k0_pay6]

theorem pay8 : k0_pay8 v40 v42 v44 (ix1 n) = scaleOf (amax fun j : Fin 1024 => k0_pay7 v40 v42 v44 (ix2 n j)) := by
  unfold k0_pay8
  exact (scaleV _ n).trans (congrArg scaleOf (maxV1024 (k0_pay7 v40 v42 v44) n))

theorem pay9 : k0_pay9 v40 v42 v44 (ix2 n j)
    = Ideal.fptosi 8 (codeOf (k0_pay7 v40 v42 v44 (ix2 n j)) (k0_pay8 v40 v42 v44 (ix1 n))) := by
  unfold k0_pay9
  exact codeV1024 (k0_pay7 v40 v42 v44) n j (k0_pay8 v40 v42 v44)
end B

/-- A layer on the codes `c` with the scales `q`. -/
theorem linV4096 (c : IVec S10415x1024 8) (q : FVec Ideal S10415 .f32) (w : Vec Ideal S1024x4096 .i8) (ws b : Vec Ideal S4096 .f32)
    (n : Fin 10415) (j : Fin 4096) :
    addf (mulf (mulf (matmul dot_S10415x1024_S1024x4096_S10415x4096_1_0_0_1_n_n none (sitofp .bf16 c : FVec Ideal S10415x1024 .bf16) (sitofp .bf16 w : FVec Ideal S1024x4096 .bf16)
        (constant S10415x4096 .f32 0x00000000#32))
        (broadcastTo S10415x4096 (shapeCast S10415x1 q shapeCasts_S10415_S10415x1) broadcasts_S10415x1_S10415x4096))
        (broadcastTo S10415x4096 (shapeCast S1x4096 ws shapeCasts_S4096_S1x4096) broadcasts_S1x4096_S10415x4096))
        (broadcastTo S10415x4096 (shapeCast S1x4096 b shapeCasts_S4096_S1x4096) broadcasts_S1x4096_S10415x4096) (ix2 n j)
    = lin (fun k => num (c (ix2 n k))) (q (ix1 n)) (fun k j => num (w (ix2 k j))) (fun j => ws (ix1 j)) (fun j => b (ix1 j)) j := by
  pointwise; rfl

/-- A layer on the codes `c` with the scales `q`. -/
theorem linV1024 (c : IVec S10415x4096 8) (q : FVec Ideal S10415 .f32) (w : Vec Ideal S4096x1024 .i8) (ws b : Vec Ideal S1024 .f32)
    (n : Fin 10415) (j : Fin 1024) :
    addf (mulf (mulf (matmul dot_S10415x4096_S4096x1024_S10415x1024_1_0_0_1_n_n none (sitofp .bf16 c : FVec Ideal S10415x4096 .bf16) (sitofp .bf16 w : FVec Ideal S4096x1024 .bf16)
        (constant S10415x1024 .f32 0x00000000#32))
        (broadcastTo S10415x1024 (shapeCast S10415x1 q shapeCasts_S10415_S10415x1) broadcasts_S10415x1_S10415x1024))
        (broadcastTo S10415x1024 (shapeCast S1x1024 ws shapeCasts_S1024_S1x1024) broadcasts_S1x1024_S10415x1024))
        (broadcastTo S10415x1024 (shapeCast S1x1024 b shapeCasts_S1024_S1x1024) broadcasts_S1x1024_S10415x1024) (ix2 n j)
    = lin (fun k => num (c (ix2 n k))) (q (ix1 n)) (fun k j => num (w (ix2 k j))) (fun j => ws (ix1 j)) (fun j => b (ix1 j)) j := by
  pointwise; rfl

/-- The GELU. -/
theorem geluV (u : FVec Ideal S10415x4096 .f32) (n : Fin 10415) (j : Fin 4096) :
    mulf (mulf (broadcast S10415x4096 (Scalar.ofBits .f32 0x3F000000#32)) u)
      (addf (broadcast S10415x4096 (Scalar.ofBits .f32 0x3F800000#32))
        (erf (divf u (broadcast S10415x4096 (Scalar.ofBits .f32 0x3FB504F3#32))))) (ix2 n j) = gelu (u (ix2 n j)) := by
  pointwise; rfl

section C
variable (v40 v42 : FVec Ideal S10415x1024 .f32) (v44 : Vec Ideal S1024 .f32) (v65 : Vec Ideal S1024x4096 .i8)
  (v66 v67 : Vec Ideal S4096 .f32) (n : Fin 10415) (j : Fin 4096)

theorem pay10 : k0_pay10 v40 v42 v44 v65 v66 v67 (ix2 n j)
    = gelu (lin (fun k => num (k0_pay9 v40 v42 v44 (ix2 n k))) (k0_pay8 v40 v42 v44 (ix1 n)) (fun k j => num (v65 (ix2 k j)))
        (fun j => v66 (ix1 j)) (fun j => v67 (ix1 j)) j) := by
  unfold k0_pay10
  exact (geluV _ n j).trans (congrArg gelu (linV4096 (k0_pay9 v40 v42 v44) (k0_pay8 v40 v42 v44) v65 v66 v67 n j))
end C

section D
variable (v87 : FVec Ideal S10415x4096 .f32) (n : Fin 10415) (j : Fin 4096)

theorem pay11 : k0_pay11 v87 (ix1 n) = scaleOf (amax fun j : Fin 4096 => v87 (ix2 n j)) := by
  unfold k0_pay11
  exact (scaleV _ n).trans (congrArg scaleOf (maxV4096 v87 n))

theorem pay12 : k0_pay12 v87 (ix2 n j) = Ideal.fptosi 8 (codeOf (v87 (ix2 n j)) (k0_pay11 v87 (ix1 n))) := by
  unfold k0_pay12
  exact codeV4096 v87 n j (k0_pay11 v87)
end D

section E
variable (v43 : FVec Ideal S10415x1024 .f32) (v87 : FVec Ideal S10415x4096 .f32) (v105 : Vec Ideal S4096x1024 .i8)
  (v106 v107 v121 v122 : Vec Ideal S1024 .f32) (n : Fin 10415) (j : Fin 1024)

/-- The row after the down projection and its residual. -/
def dnRow (k : Fin 1024) : EReal :=
  lin (fun i => num (k0_pay12 v87 (ix2 n i))) (k0_pay11 v87 (ix1 n)) (fun i j => num (v105 (ix2 i j))) (fun j => v106 (ix1 j))
    (fun j => v107 (ix1 j)) k + v43 (ix2 n k)

/-- The row less its mean. -/
theorem cenV (u x : FVec Ideal S10415x1024 .f32) :
    subf (addf u x) (broadcastTo S10415x1024 (divf (shapeCast S10415x1 (multiReduction .add [1] S10415 (addf u x) 0x00000000#32 reduces_S10415x1024_S10415
      (.inl rfl) rfl) shapeCasts_S10415_S10415x1) (broadcast S10415x1 (Scalar.ofBits .f32 0x44800000#32))) broadcasts_S10415x1_S10415x1024) (ix2 n j)
    = cen (fun k => u (ix2 n k) + x (ix2 n k)) j := by
  pointwise; rfl

/-- The sum of a row's squares. -/
theorem sqV (x : FVec Ideal S10415x1024 .f32) :
    shapeCast S10415x1 (multiReduction .add [1] S10415 (mulf x x) 0x00000000#32 reduces_S10415x1024_S10415 (.inl rfl) rfl)
      shapeCasts_S10415_S10415x1 (ix2 n 0) = ∑ k : Fin 1024, x (ix2 n k) * x (ix2 n k) := by
  pointwise

theorem pay13 : k0_pay13 v43 v87 v105 v106 v107 (ix2 n j) = cen (dnRow v43 v87 v105 v106 v107 n) j := by
  unfold k0_pay13
  refine (cenV n j _ v43).trans (congrArg (fun f => cen f j) (funext fun k => ?_))
  exact congrArg (· + v43 (ix2 n k)) (linV1024 (k0_pay12 v87) (k0_pay11 v87) v105 v106 v107 n k)

theorem pay14 : k0_pay14 v43 v87 v105 v106 v107 (ix2 n 0)
    = ∑ k : Fin 1024, k0_pay13 v43 v87 v105 v106 v107 (ix2 n k) * k0_pay13 v43 v87 v105 v106 v107 (ix2 n k) := by
  unfold k0_pay14
  exact sqV n (k0_pay13 v43 v87 v105 v106 v107)

variable (v128 : FVec Ideal S10415x1024 .f32) (v131 : FVec Ideal S10415x1 .f32)

theorem pay1 : k0_pay1 v121 v122 v128 v131 (ix2 n j)
    = v128 (ix2 n j) * Ideal.rsqrt (Ideal.div (v131 (ix2 n 0)) cLen + cEps) * v121 (ix1 j) + v122 (ix1 j) := by
  pointwise [k0_pay1]

theorem pay3 : k0_pay3 v121 v122 v128 v131 (ix2 n j) = k0_pay1 v121 v122 v128 v131 (ix2 n j) := by
  pointwise [k0_pay3]
end E

end Cert.Ffn.RefBlock

end
-- ==== Proof.RefTower.lean ====
module

public import proofs.«01_k».proof.Proof.RefBlock
public import proofs.«01_k».proof.Proof.Args

/-! The reference's body over the arguments: every intermediate array is the mathematics of the tokens' rows. -/

@[expose] public section

set_option maxRecDepth 16384

noncomputable section

namespace Cert.Ffn.RefTower

open Idealize.ShloMosaic Cert.ReferenceIdeal Cert.ReferenceIdeal.Gen Cert.Ffn.RefBlock

variable (A : Args) (n : Fin 10415)

def v40 : FVec Ideal S10415x1024 .f32 := k0_pay4 A.x A.cc A.cs A.wo A.wso A.bo A.g1
def v42 : FVec Ideal S10415x1024 .f32 := k0_pay5 A.b1
def v43 : FVec Ideal S10415x1024 .f32 := k0_pay6 (v40 A) (v42 A)
def v87 : FVec Ideal S10415x4096 .f32 := k0_pay10 (v40 A) (v42 A) A.su A.wu A.wsu A.bu
def v128 : FVec Ideal S10415x1024 .f32 := k0_pay13 (v43 A) (v87 A) A.wd A.wsd A.bd
def v131 : FVec Ideal S10415x1 .f32 := k0_pay14 (v43 A) (v87 A) A.wd A.wsd A.bd

theorem v43_eq (j : Fin 1024) : v43 A (ix2 n j) = h1 A.wts (A.tok n) j := by
  unfold v43 v40 v42; rw [pay6, pay4, pay5]; rfl

theorem sm_eq (j : Fin 1024) : k0_pay7 (v40 A) (v42 A) A.su (ix2 n j) = sm A.wts (A.tok n) j := by
  rw [pay7, ← pay6]; exact congrArg (Ideal.div · _) (v43_eq A n j)

theorem hs_eq : k0_pay8 (v40 A) (v42 A) A.su (ix1 n) = hs A.wts (A.tok n) := by
  rw [pay8]; simp only [sm_eq]; rfl

theorem hc_eq (j : Fin 1024) : k0_pay9 (v40 A) (v42 A) A.su (ix2 n j) = Ideal.fptosi 8 (hc A.wts (A.tok n) j) := by
  rw [pay9, sm_eq, hs_eq]; rfl

/-- A code converted to int8 and read as a number again. -/
theorem num_code (v s : EReal) : num (Ideal.fptosi 8 (codeOf v s)) = codeOf v s := toInt_fptosi_clip _

theorem gg_eq (j : Fin 4096) : v87 A (ix2 n j) = gg A.wts (A.tok n) j := by
  unfold v87; rw [pay10]; simp only [hc_eq, hs_eq, hc, num_code]; rfl

theorem gs_eq : k0_pay11 (v87 A) (ix1 n) = gs A.wts (A.tok n) := by
  rw [pay11]; simp only [gg_eq]; rfl

theorem gc_eq (j : Fin 4096) : k0_pay12 (v87 A) (ix2 n j) = Ideal.fptosi 8 (gc A.wts (A.tok n) j) := by
  rw [pay12, gg_eq, gs_eq]; rfl

theorem dn_eq : dnRow (v43 A) (v87 A) A.wd A.wsd A.bd n = dn A.wts (A.tok n) := by
  funext k; unfold dnRow; simp only [gc_eq, gs_eq, v43_eq, gc, num_code]; rfl

theorem v128_eq (j : Fin 1024) : v128 A (ix2 n j) = cen (dn A.wts (A.tok n)) j := by
  unfold v128; rw [pay13, dn_eq]

theorem v131_eq : v131 A (ix2 n 0) = ∑ k : Fin 1024, cen (dn A.wts (A.tok n)) k * cen (dn A.wts (A.tok n)) k := by
  unfold v131; rw [pay14]; simp only [pay13, dn_eq]

theorem yy_eq (j : Fin 1024) : k0_pay1 A.g2 A.b2 (v128 A) (v131 A) (ix2 n j) = yy A.wts (A.tok n) j := by
  rw [pay1, v128_eq, v131_eq]; rfl

end Cert.Ffn.RefTower

end
-- ==== Proof.RefInputs.lean ====
module

public import proofs.«01_k».proof.Proof.RefTower
public import proofs.«01_k».proof.Proof.Gen.ReferenceIdeal.Frame
public import Idealize.ShloMosaic.Lib.Pipeline.ValueKit
public import Idealize.ShloMosaic.Lib.ValueIdx

/-! The reference's one region reads the arguments as whole arrays. -/

@[expose] public section

set_option maxRecDepth 16384

noncomputable section

namespace Cert.ReferenceIdeal.Gen

open Idealize.ShloMosaic Idealize.ShloMosaic.TcCoe Idealize.ShloMosaic.Tactic Cert.ReferenceIdeal Cert.Ffn

variable (m : (ℓ : Loc nD τ sig) → Buf (Elt Ideal) ℓ) (c : Dev nD) (t : Fin cfg0.N)

/-- The arguments in the memory. -/
def args : Args where
  cu := m ((c.tc : Thread nD τ).loc main_arg0)
  cc := m ((c.tc : Thread nD τ).loc main_arg1)
  cs := m ((c.tc : Thread nD τ).loc main_arg2)
  x := m ((c.tc : Thread nD τ).loc main_arg3)
  wo := m ((c.tc : Thread nD τ).loc main_arg4)
  wso := m ((c.tc : Thread nD τ).loc main_arg5)
  bo := m ((c.tc : Thread nD τ).loc main_arg6)
  g1 := m ((c.tc : Thread nD τ).loc main_arg7)
  b1 := m ((c.tc : Thread nD τ).loc main_arg8)
  su := m ((c.tc : Thread nD τ).loc main_arg9)
  wu := m ((c.tc : Thread nD τ).loc main_arg10)
  wsu := m ((c.tc : Thread nD τ).loc main_arg11)
  bu := m ((c.tc : Thread nD τ).loc main_arg12)
  wd := m ((c.tc : Thread nD τ).loc main_arg13)
  wsd := m ((c.tc : Thread nD τ).loc main_arg14)
  bd := m ((c.tc : Thread nD τ).loc main_arg15)
  g2 := m ((c.tc : Thread nD τ).loc main_arg16)
  b2 := m ((c.tc : Thread nD τ).loc main_arg17)
  wcl := m ((c.tc : Thread nD τ).loc main_arg18)

/-! ## The region reads whole arrays -/

theorem at0 : ∀ t : Fin cfg0.N, win0_0.index t 0 = 0 ∧ win0_0.index t 1 = 0 := by decide +kernel
theorem iblk0 : iblk m c 0 t = (args m c).cc := by
  funext y; unfold args; blk_ext [iblk, (at0 t).1, (at0 t).2]
theorem at1 : ∀ t : Fin cfg0.N, win0_1.index t 0 = 0 := by decide +kernel
theorem iblk1 : iblk m c 1 t = (args m c).cs := by
  funext y; unfold args; blk_ext [iblk, at1 t]
theorem at2 : ∀ t : Fin cfg0.N, win0_2.index t 0 = 0 ∧ win0_2.index t 1 = 0 := by decide +kernel
theorem iblk2 : iblk m c 2 t = (args m c).x := by
  funext y; unfold args; blk_ext [iblk, (at2 t).1, (at2 t).2]
theorem at3 : ∀ t : Fin cfg0.N, win0_3.index t 0 = 0 ∧ win0_3.index t 1 = 0 := by decide +kernel
theorem iblk3 : iblk m c 3 t = (args m c).wo := by
  funext y; unfold args; blk_ext [iblk, (at3 t).1, (at3 t).2]
theorem at4 : ∀ t : Fin cfg0.N, win0_4.index t 0 = 0 := by decide +kernel
theorem iblk4 : iblk m c 4 t = (args m c).wso := by
  funext y; unfold args; blk_ext [iblk, at4 t]
theorem at5 : ∀ t : Fin cfg0.N, win0_5.index t 0 = 0 := by decide +kernel
theorem iblk5 : iblk m c 5 t = (args m c).bo := by
  funext y; unfold args; blk_ext [iblk, at5 t]
theorem at6 : ∀ t : Fin cfg0.N, win0_6.index t 0 = 0 := by decide +kernel
theorem iblk6 : iblk m c 6 t = (args m c).g1 := by
  funext y; unfold args; blk_ext [iblk, at6 t]
theorem at7 : ∀ t : Fin cfg0.N, win0_7.index t 0 = 0 := by decide +kernel
theorem iblk7 : iblk m c 7 t = (args m c).b1 := by
  funext y; unfold args; blk_ext [iblk, at7 t]
theorem at8 : ∀ t : Fin cfg0.N, win0_8.index t 0 = 0 := by decide +kernel
theorem iblk8 : iblk m c 8 t = (args m c).su := by
  funext y; unfold args; blk_ext [iblk, at8 t]
theorem at9 : ∀ t : Fin cfg0.N, win0_9.index t 0 = 0 ∧ win0_9.index t 1 = 0 := by decide +kernel
theorem iblk9 : iblk m c 9 t = (args m c).wu := by
  funext y; unfold args; blk_ext [iblk, (at9 t).1, (at9 t).2]
theorem at10 : ∀ t : Fin cfg0.N, win0_10.index t 0 = 0 := by decide +kernel
theorem iblk10 : iblk m c 10 t = (args m c).wsu := by
  funext y; unfold args; blk_ext [iblk, at10 t]
theorem at11 : ∀ t : Fin cfg0.N, win0_11.index t 0 = 0 := by decide +kernel
theorem iblk11 : iblk m c 11 t = (args m c).bu := by
  funext y; unfold args; blk_ext [iblk, at11 t]
theorem at12 : ∀ t : Fin cfg0.N, win0_12.index t 0 = 0 ∧ win0_12.index t 1 = 0 := by decide +kernel
theorem iblk12 : iblk m c 12 t = (args m c).wd := by
  funext y; unfold args; blk_ext [iblk, (at12 t).1, (at12 t).2]
theorem at13 : ∀ t : Fin cfg0.N, win0_13.index t 0 = 0 := by decide +kernel
theorem iblk13 : iblk m c 13 t = (args m c).wsd := by
  funext y; unfold args; blk_ext [iblk, at13 t]
theorem at14 : ∀ t : Fin cfg0.N, win0_14.index t 0 = 0 := by decide +kernel
theorem iblk14 : iblk m c 14 t = (args m c).bd := by
  funext y; unfold args; blk_ext [iblk, at14 t]
theorem at15 : ∀ t : Fin cfg0.N, win0_15.index t 0 = 0 := by decide +kernel
theorem iblk15 : iblk m c 15 t = (args m c).g2 := by
  funext y; unfold args; blk_ext [iblk, at15 t]
theorem at16 : ∀ t : Fin cfg0.N, win0_16.index t 0 = 0 := by decide +kernel
theorem iblk16 : iblk m c 16 t = (args m c).b2 := by
  funext y; unfold args; blk_ext [iblk, at16 t]

end Cert.ReferenceIdeal.Gen

end
-- ==== Proof.RefResults.lean ====
module

public import proofs.«01_k».proof.Proof.RefInputs
public import proofs.«01_k».proof.Proof.Gen.ReferenceIdeal.Run

/-! The reference's results: what its region leaves in whole arrays, and the score, which gathers rows of it. -/

@[expose] public section

set_option maxRecDepth 16384

noncomputable section

namespace Cert.ReferenceIdeal.Gen

open Idealize.ShloMosaic Idealize.ShloMosaic.TcCoe Idealize.ShloMosaic.Tactic Cert.ReferenceIdeal Cert.Ffn Cert.Ffn.RefTower

/-! ## The named intermediate arrays -/

section
variable (A : Args)

theorem k15 : k0_pay15 A.cc A.cs A.x A.wo A.wso A.bo A.g1 A.b1 A.su A.wu A.wsu A.bu A.wd A.wsd A.bd A.g2 A.b2 = v40 A := by
  unfold k0_pay15 v40; simp (disch := decide) only [View.ld_unit_lit]
theorem k16 : k0_pay16 A.cc A.cs A.x A.wo A.wso A.bo A.g1 A.b1 A.su A.wu A.wsu A.bu A.wd A.wsd A.bd A.g2 A.b2 = v42 A := by
  unfold k0_pay16 v42; simp (disch := decide) only [View.ld_unit_lit]
theorem k17 : k0_pay17 A.cc A.cs A.x A.wo A.wso A.bo A.g1 A.b1 A.su A.wu A.wsu A.bu A.wd A.wsd A.bd A.g2 A.b2 = v43 A := by
  unfold k0_pay17 v43; rw [k15, k16]
theorem k18 : k0_pay18 A.cc A.cs A.x A.wo A.wso A.bo A.g1 A.b1 A.su A.wu A.wsu A.bu A.wd A.wsd A.bd A.g2 A.b2 = v87 A := by
  unfold k0_pay18 v87; rw [k15, k16]; simp (disch := decide) only [View.ld_unit_lit]
theorem k19 : k0_pay19 A.cc A.cs A.x A.wo A.wso A.bo A.g1 A.b1 A.su A.wu A.wsu A.bu A.wd A.wsd A.bd A.g2 A.b2 = v128 A := by
  unfold k0_pay19 v128; rw [k17, k18]; simp (disch := decide) only [View.ld_unit_lit]
theorem k20 : k0_pay20 A.cc A.cs A.x A.wo A.wso A.bo A.g1 A.b1 A.su A.wu A.wsu A.bu A.wd A.wsd A.bd A.g2 A.b2 = v131 A := by
  unfold k0_pay20 v131; rw [k17, k18]; simp (disch := decide) only [View.ld_unit_lit]

theorem o17 : out0_17 A.cc A.cs A.x A.wo A.wso A.bo A.g1 A.b1 A.su A.wu A.wsu A.bu A.wd A.wsd A.bd A.g2 A.b2 = k0_pay2 (v43 A) := by
  unfold out0_17; rw [k17]; simp (disch := decide) only [View.canon_cons_unit_lit, View.ld_unit_lit]
theorem o18 : out0_18 A.cc A.cs A.x A.wo A.wso A.bo A.g1 A.b1 A.su A.wu A.wsu A.bu A.wd A.wsd A.bd A.g2 A.b2 = k0_pay3 A.g2 A.b2 (v128 A) (v131 A) := by
  unfold out0_18; rw [k19, k20]; simp (disch := decide) only [View.canon_cons_unit_lit, View.ld_unit_lit]
theorem o19 : out0_19 A.cc A.cs A.x A.wo A.wso A.bo A.g1 A.b1 A.su A.wu A.wsu A.bu A.wd A.wsd A.bd A.g2 A.b2 = k0_pay1 A.g2 A.b2 (v128 A) (v131 A) := by
  unfold out0_19; rw [k19, k20]; simp (disch := decide) only [View.canon_cons_unit_lit, View.ld_unit_lit]
theorem o20 : out0_20 A.cc A.cs A.x A.wo A.wso A.bo A.g1 A.b1 A.su A.wu A.wsu A.bu A.wd A.wsd A.bd A.g2 A.b2 = k0_pay9 (v40 A) (v42 A) A.su := by
  unfold out0_20; rw [k15, k16]; simp (disch := decide) only [View.canon_cons_unit_lit, View.ld_unit_lit]
theorem o21 : out0_21 A.cc A.cs A.x A.wo A.wso A.bo A.g1 A.b1 A.su A.wu A.wsu A.bu A.wd A.wsd A.bd A.g2 A.b2 = k0_pay8 (v40 A) (v42 A) A.su := by
  unfold out0_21; rw [k15, k16]; simp (disch := decide) only [View.canon_cons_unit_lit, View.ld_unit_lit]
theorem o22 : out0_22 A.cc A.cs A.x A.wo A.wso A.bo A.g1 A.b1 A.su A.wu A.wsu A.bu A.wd A.wsd A.bd A.g2 A.b2 = k0_pay12 (v87 A) := by
  unfold out0_22; rw [k18]; simp (disch := decide) only [View.canon_cons_unit_lit, View.ld_unit_lit]
theorem o23 : out0_23 A.cc A.cs A.x A.wo A.wso A.bo A.g1 A.b1 A.su A.wu A.wsu A.bu A.wd A.wsd A.bd A.g2 A.b2 = k0_pay11 (v87 A) := by
  unfold out0_23; rw [k18]; simp (disch := decide) only [View.canon_cons_unit_lit, View.ld_unit_lit]

end

variable (m : (ℓ : Loc nD τ sig) → Buf (Elt Ideal) ℓ) (c : Dev nD)

/-! ## The arrays -/

theorem at17 : ∀ t : Fin cfg0.N, win0_17.index t 0 = 0 ∧ win0_17.index t 1 = 0 := by decide +kernel
theorem arr17 : (dats m 0 c).arrAt 17 cfg0.N = k0_pay2 (v43 (args m c)) := by
  refine (dats m 0 c).arrAt_eq_of_covers 17 _ (by decide +kernel) fun t hf y => ?_
  blk_simp; rw [after0_17]
  simp only [iblk0, iblk1, iblk2, iblk3, iblk4, iblk5, iblk6, iblk7, iblk8, iblk9, iblk10, iblk11, iblk12, iblk13, iblk14, iblk15, iblk16]
  rw [o17]; refine congrArg _ ?_
  blk_ext [(at17 t).1, (at17 t).2]

theorem at18 : ∀ t : Fin cfg0.N, win0_18.index t 0 = 0 ∧ win0_18.index t 1 = 0 := by decide +kernel
theorem arr18 : (dats m 0 c).arrAt 18 cfg0.N = k0_pay3 (args m c).g2 (args m c).b2 (v128 (args m c)) (v131 (args m c)) := by
  refine (dats m 0 c).arrAt_eq_of_covers 18 _ (by decide +kernel) fun t hf y => ?_
  blk_simp; rw [after0_18]
  simp only [iblk0, iblk1, iblk2, iblk3, iblk4, iblk5, iblk6, iblk7, iblk8, iblk9, iblk10, iblk11, iblk12, iblk13, iblk14, iblk15, iblk16]
  rw [o18]; refine congrArg _ ?_
  blk_ext [(at18 t).1, (at18 t).2]

theorem at19 : ∀ t : Fin cfg0.N, win0_19.index t 0 = 0 ∧ win0_19.index t 1 = 0 := by decide +kernel
theorem arr19 : (dats m 0 c).arrAt 19 cfg0.N = k0_pay1 (args m c).g2 (args m c).b2 (v128 (args m c)) (v131 (args m c)) := by
  refine (dats m 0 c).arrAt_eq_of_covers 19 _ (by decide +kernel) fun t hf y => ?_
  blk_simp; rw [after0_19]
  simp only [iblk0, iblk1, iblk2, iblk3, iblk4, iblk5, iblk6, iblk7, iblk8, iblk9, iblk10, iblk11, iblk12, iblk13, iblk14, iblk15, iblk16]
  rw [o19]; refine congrArg _ ?_
  blk_ext [(at19 t).1, (at19 t).2]

theorem at20 : ∀ t : Fin cfg0.N, win0_20.index t 0 = 0 ∧ win0_20.index t 1 = 0 := by decide +kernel
theorem arr20 : (dats m 0 c).arrAt 20 cfg0.N = k0_pay9 (v40 (args m c)) (v42 (args m c)) (args m c).su := by
  refine (dats m 0 c).arrAt_eq_of_covers 20 _ (by decide +kernel) fun t hf y => ?_
  blk_simp; rw [after0_20]
  simp only [iblk0, iblk1, iblk2, iblk3, iblk4, iblk5, iblk6, iblk7, iblk8, iblk9, iblk10, iblk11, iblk12, iblk13, iblk14, iblk15, iblk16]
  rw [o20]; refine congrArg _ ?_
  blk_ext [(at20 t).1, (at20 t).2]

theorem at21 : ∀ t : Fin cfg0.N, win0_21.index t 0 = 0 := by decide +kernel
theorem arr21 : (dats m 0 c).arrAt 21 cfg0.N = k0_pay8 (v40 (args m c)) (v42 (args m c)) (args m c).su := by
  refine (dats m 0 c).arrAt_eq_of_covers 21 _ (by decide +kernel) fun t hf y => ?_
  blk_simp; rw [after0_21]
  simp only [iblk0, iblk1, iblk2, iblk3, iblk4, iblk5, iblk6, iblk7, iblk8, iblk9, iblk10, iblk11, iblk12, iblk13, iblk14, iblk15, iblk16]
  rw [o21]; refine congrArg _ ?_
  blk_ext [at21 t]

theorem at22 : ∀ t : Fin cfg0.N, win0_22.index t 0 = 0 ∧ win0_22.index t 1 = 0 := by decide +kernel
theorem arr22 : (dats m 0 c).arrAt 22 cfg0.N = k0_pay12 (v87 (args m c)) := by
  refine (dats m 0 c).arrAt_eq_of_covers 22 _ (by decide +kernel) fun t hf y => ?_
  blk_simp; rw [after0_22]
  simp only [iblk0, iblk1, iblk2, iblk3, iblk4, iblk5, iblk6, iblk7, iblk8, iblk9, iblk10, iblk11, iblk12, iblk13, iblk14, iblk15, iblk16]
  rw [o22]; refine congrArg _ ?_
  blk_ext [(at22 t).1, (at22 t).2]

theorem at23 : ∀ t : Fin cfg0.N, win0_23.index t 0 = 0 := by decide +kernel
theorem arr23 : (dats m 0 c).arrAt 23 cfg0.N = k0_pay11 (v87 (args m c)) := by
  refine (dats m 0 c).arrAt_eq_of_covers 23 _ (by decide +kernel) fun t hf y => ?_
  blk_simp; rw [after0_23]
  simp only [iblk0, iblk1, iblk2, iblk3, iblk4, iblk5, iblk6, iblk7, iblk8, iblk9, iblk10, iblk11, iblk12, iblk13, iblk14, iblk15, iblk16]
  rw [o23]; refine congrArg _ ?_
  blk_ext [at23 t]

/-! ## The results -/

theorem res_rH1 : Value.reg_main_v0_0 m c = (args m c).rH1 := by
  rw [Value.reg_main_v0_0, arr17]
  funext i; idx_vars i
  rw [RefBlock.pay2]; exact v43_eq _ _ _

theorem res_rY : Value.reg_main_v0_1 m c = (args m c).rY := by
  rw [Value.reg_main_v0_1, arr18]
  funext i; idx_vars i
  rw [RefBlock.pay3]; exact yy_eq _ _ _

theorem res_rHc : Value.reg_main_v0_3 m c = (args m c).rHc := by
  rw [Value.reg_main_v0_3, arr20]
  funext i; idx_vars i
  exact hc_eq _ _ _

theorem res_rHs : Value.reg_main_v0_4 m c = (args m c).rHs := by
  rw [Value.reg_main_v0_4, arr21]
  funext i; idx_vars i
  exact hs_eq _ _

theorem res_rGc : Value.reg_main_v0_5 m c = (args m c).rGc := by
  rw [Value.reg_main_v0_5, arr22]
  funext i; idx_vars i
  exact gc_eq _ _ _

theorem res_rGs : Value.reg_main_v0_6 m c = (args m c).rGs := by
  rw [Value.reg_main_v0_6, arr23]
  funext i; idx_vars i
  exact gs_eq _ _

end Cert.ReferenceIdeal.Gen

end
-- ==== Proof.RefScore.lean ====
module

public import proofs.«01_k».proof.Proof.RefResults
public import Idealize.ShloMosaic.Lib.Routing.Ops
public import Idealize.ShloMosaic.Lib.IdealHost

/-! The reference's score: the classifier against the gathered rows. -/

@[expose] public section

set_option maxRecDepth 16384

noncomputable section

namespace Cert.ReferenceIdeal.Gen

open Idealize.ShloMosaic Idealize.ShloMosaic.TcCoe Idealize.ShloMosaic.Tactic Cert.ReferenceIdeal Cert.Ffn Cert.Ffn.RefTower

/-- The product of the gathered rows with the classifier. -/
theorem dot_apply (l : FVec Ideal S48x1024 .f32) (r : FVec Ideal S1024 .f32) (p : Fin 48) :
    Host.dotGeneral dot_S48x1024_S1024_S48_1_0_0_n_n_n (some .fp32) l r (ix1 p) = ∑ k : Fin 1024, l (ix2 p k) * r (ix1 k) := by
  pointwise

/-- A start inside the tokens is not negative, so it stays. -/
theorem small_start (a : BitVec 32) (h : a.toNat < 10415) :
    Scalar.select (IntOp.cmpi CmpIPredicate.slt a 0#32) (IntOp.addi a 10415#32) a = BitVec.ofNat 32 a.toNat := by
  have e : a.slt 0#32 = false := by
    rw [BitVec.slt_eq_decide, decide_eq_false_iff_not, BitVec.toInt_eq_toNat_of_lt (by omega)]; simp
  rw [BitVec.ofNat_toNat, BitVec.setWidth_eq]
  simp only [Scalar.select, IntOp.cmpi, e]; rfl

/-- A start as the index that the gather reads. -/
theorem idx_apply (cu : IVec S49 32) (p : Fin 48) (h : (cu (ix1 (p.castLE (by decide)))).toNat < 10415) :
    broadcastInDim S48x1 ![0] bcast_S48_S48x1_0 (select (cmpi .slt (extractStridedSlice S48 ![0] cu slices_S49_S48_0)
        (broadcastInDim S48 ![] bcast_S_S48 (constantI S_ 32 0#32))) (addi (extractStridedSlice S48 ![0] cu slices_S49_S48_0)
        (broadcastInDim S48 ![] bcast_S_S48 (constantI S_ 32 10415#32))) (extractStridedSlice S48 ![0] cu slices_S49_S48_0)) (ix2 p 0)
      = BitVec.ofNat 32 (cu (ix1 (p.castLE (by decide)))).toNat := by
  pointwise
  exact small_start _ h

variable (m : (ℓ : Loc nD τ sig) → Buf (Elt Ideal) ℓ) (c : Dev nD) (hr : (args m c).InRange)

theorem res_rScore : Host.dotGeneral (F := Ideal) (φ₁ := .f32) (φ₂ := .f32) dot_S48x1024_S1024_S48_1_0_0_n_n_n (some .fp32)
    (Host.gather gather_S10415x1024_S48x1_S48x1024_1_0_n_n_0_1_11024 (Value.reg_main_v0_2 m c)
      (broadcastInDim S48x1 ![0] bcast_S48_S48x1_0 (select (cmpi .slt (extractStridedSlice S48 ![0] (m ((c.tc : Thread nD τ).loc main_arg0)) slices_S49_S48_0)
        (broadcastInDim S48 ![] bcast_S_S48 (constantI S_ 32 0#32))) (addi (extractStridedSlice S48 ![0] (m ((c.tc : Thread nD τ).loc main_arg0)) slices_S49_S48_0)
        (broadcastInDim S48 ![] bcast_S_S48 (constantI S_ 32 10415#32))) (extractStridedSlice S48 ![0] (m ((c.tc : Thread nD τ).loc main_arg0)) slices_S49_S48_0))))
    (m ((c.tc : Thread nD τ).loc main_arg18)) = (args m c).rScore hr := by
  funext i; idx_vars i
  refine (dot_apply _ _ _).trans (Finset.sum_congr rfl fun k _ => ?_)
  have e := Idealize.ShloMosaic.Routing.gather_row gather_S10415x1024_S48x1_S48x1024_1_0_n_n_0_1_11024 rfl rfl rfl rfl rfl (Value.reg_main_v0_2 m c) _ i0 k ((args m c).start hr i0)
    (idx_apply (m ((c.tc : Thread nD τ).loc main_arg0)) i0 (hr i0)) (by norm_num)
  refine congrArg₂ (· * ·) (e.trans ?_) rfl
  rw [Value.reg_main_v0_2, arr19]
  exact yy_eq _ _ _

end Cert.ReferenceIdeal.Gen

end
-- ==== Proof.Pre.lean ====
module

public import proofs.«01_k».proof.Proof.Inputs
public import proofs.«01_k».proof.Proof.RefInputs
public import Idealize.ShloMosaic.Lib.WordCmp
public import proofs.«01_k».proof.Defs

/-! What the precondition gives: every sequence starts inside the tokens, and no smoothing factor is zero. And both
programs' argument arrays, when the memories agree on them. -/

@[expose] public section

set_option maxRecDepth 16384

noncomputable section

namespace Cert.Proof

open Idealize.ShloMosaic Idealize.ShloMosaic.TcCoe Idealize.ShloMosaic.Tactic Cert.Ffn

/-- The precondition's stated facts. -/
theorem preFacts : Cert.Pre_starts_in_range.Facts where
  slices_S49_S48_0 := by decide
  bcast_S_S48 := by decide
  bcast_S_S1024 := by decide

/-- A signed word between zero and 10415 is a natural below 10415. -/
theorem small_of_masks (a : BitVec 32) (h : IntOp.andi (IntOp.cmpi .sge a 0#32) (IntOp.cmpi .slt a 10415#32) = 1#1) : a.toNat < 10415 := by
  have e := WordCmp.andi_sge_zero_slt_ofNat (w := 32) (k := 10415) (by norm_num) a
  rw [e] at h
  by_contra n
  rw [decide_eq_false n] at h
  exact absurd h (by decide)

/-- An unequal-to-zero mask that is set. -/
theorem nonzero_of_mask (v : FVec Ideal (⟨1, ![1024]⟩ : Shape) .f32) (hb : (⟨0, ![]⟩ : Shape).BroadcastsInDim (⟨1, ![1024]⟩ : Shape) (![] : Fin 0 → Fin 1)) (j : Fin 1024)
    (e : cmpf .une v (broadcastInDim (⟨1, ![1024]⟩ : Shape) ![] hb (constant (⟨0, ![]⟩ : Shape) .f32 0x00000000#32)) (ix1 j) = 1#1) : v (ix1 j) ≠ 0 := by
  intro z
  pointwise at e
  rw [z] at e
  revert e
  norm_num; decide

variable [hP : Cert.Pre_starts_in_range.Facts]
variable (m : (ℓ : Loc Cert.KernelIdeal.nD Cert.KernelIdeal.τ Cert.KernelIdeal.sig) → Buf (Elt Ideal) ℓ)

/-- Every sequence starts inside the tokens. -/
theorem pre_inRange (h : Cert.Pre_KernelIdeal_starts_in_range m) (c : Dev Cert.KernelIdeal.nD) :
    (Cert.KernelIdeal.Gen.args m c).InRange := by
  intro p
  have e := congrFun (h c).1 (ix1 p)
  simp only [Cert.Pre_starts_in_range.fn] at e
  exact small_of_masks _ (by pointwise at e; exact e)

/-- No smoothing factor is zero. -/
theorem pre_su (h : Cert.Pre_KernelIdeal_starts_in_range m) (c : Dev Cert.KernelIdeal.nD) (j : Fin 1024) :
    (Cert.KernelIdeal.Gen.args m c).su (ix1 j) ≠ 0 := by
  have e := congrFun (h c).2 (ix1 j)
  simp only [Cert.Pre_starts_in_range.fn] at e
  exact nonzero_of_mask _ _ j e

/-- Both programs' arguments, where the memories agree. -/
theorem args_eq (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) : Cert.ReferenceIdeal.Gen.args m' c = Cert.KernelIdeal.Gen.args m c := by
  obtain ⟨h0, h1, h2, h3, h4, h5, h6, h7, h8, h9, h10, h11, h12, h13, h14, h15, h16, h17, h18⟩ := h
  unfold Cert.ReferenceIdeal.Gen.args Cert.KernelIdeal.Gen.args
  congr 1

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.KernelFrame
public import proofs.«01_k».proof.Proof.KernelIdealFrame
public import proofs.«01_k».proof.Proof.KernelIdealRun
public import proofs.«01_k».proof.Proof.Results
public import proofs.«01_k».proof.Proof.RefScore
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- The scores of equal arguments are equal. -/
theorem score_congr {A B : Cert.Ffn.Args} (e : A = B) (hA : A.InRange) (hB : B.InRange) : A.rScore hA = B.rScore hB := by
  subst e; rfl

/-- `Cert.algebraic_KernelIdeal_ReferenceIdeal_pre_starts_in_range`: both programs' results are those of their arguments
(`Cert.Ffn.Args`), and the arguments agree. -/
theorem algebraic : Cert.algebraic_KernelIdeal_ReferenceIdeal_pre_starts_in_range (hKernelIdeal := Cert.KernelIdeal.Gen.facts)
    (hReferenceIdeal := Cert.ReferenceIdeal.Gen.facts) (hPre_starts_in_range := preFacts) := by
  intro m g m' g' hpre hargs
  have hr := fun c => pre_inRange (hP := preFacts) m hpre c
  have hs := fun c j => pre_su (hP := preFacts) m hpre c j
  have ha := fun c => args_eq (hP := preFacts) m m' c (hargs c)
  have hr' : ∀ c, (Cert.ReferenceIdeal.Gen.args m' c).InRange := fun c => (ha c).symm ▸ hr c
  have hsc : ∀ c, (Cert.ReferenceIdeal.Gen.args m' c).rScore (hr' c) = (Cert.KernelIdeal.Gen.args m c).rScore (hr c) := by
    exact fun c => score_congr (ha c) _ _
  refine ⟨fun c => (Cert.KernelIdeal.Gen.args m c).rH1, fun c => (Cert.KernelIdeal.Gen.args m c).rY, fun c => (Cert.KernelIdeal.Gen.args m c).rScore (hr c),
    fun c => (Cert.KernelIdeal.Gen.args m c).rHc, fun c => (Cert.KernelIdeal.Gen.args m c).rHs,
    fun c => (Cert.KernelIdeal.Gen.args m c).rGc, fun c => (Cert.KernelIdeal.Gen.args m c).rGs, ?_, ?_⟩
  · refine (θ_run (Cert.KernelIdeal.defs (F := Ideal)) _ _).mono (fun r h c => ?_) (Cert.KernelIdeal.Value.run (F := Ideal) m g)
    obtain ⟨h0, h1, h2, h3, h4, h5, h6, hrest⟩ := h c
    exact ⟨h0.trans (Cert.KernelIdeal.Gen.res_h1 m c), h1.trans (Cert.KernelIdeal.Gen.res_y m c (hs c)),
      h2.trans (Cert.KernelIdeal.Gen.res_score m c (hs c) (hr c)), h3.trans (Cert.KernelIdeal.Gen.res_hc m c (hs c)),
      h4.trans (Cert.KernelIdeal.Gen.res_hs m c (hs c)), h5.trans (Cert.KernelIdeal.Gen.res_gc m c (hs c)),
      h6.trans (Cert.KernelIdeal.Gen.res_gs m c (hs c)), hrest⟩
  · refine (θ_run (Cert.ReferenceIdeal.defs (F := Ideal)) _ _).mono (fun r h c => ?_) (Cert.ReferenceIdeal.Value.run (F := Ideal) m' g')
    obtain ⟨h0, h1, h2, h3, h4, h5, h6, hrest⟩ := h c
    exact ⟨(h0.trans (Cert.ReferenceIdeal.Gen.res_rH1 m' c)).trans (congrArg Cert.Ffn.Args.rH1 (ha c)),
      (h1.trans (Cert.ReferenceIdeal.Gen.res_rY m' c)).trans (congrArg Cert.Ffn.Args.rY (ha c)),
      (h2.trans (Cert.ReferenceIdeal.Gen.res_rScore m' c (hr' c))).trans (hsc c),
      (h3.trans (Cert.ReferenceIdeal.Gen.res_rHc m' c)).trans (congrArg Cert.Ffn.Args.rHc (ha c)),
      (h4.trans (Cert.ReferenceIdeal.Gen.res_rHs m' c)).trans (congrArg Cert.Ffn.Args.rHs (ha c)),
      (h5.trans (Cert.ReferenceIdeal.Gen.res_rGc m' c)).trans (congrArg Cert.Ffn.Args.rGc (ha c)),
      (h6.trans (Cert.ReferenceIdeal.Gen.res_rGs m' c)).trans (congrArg Cert.Ffn.Args.rGs (ha c)), hrest⟩

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
